-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S16384x64 : Shape := ⟨2, ![16384, 64]⟩
abbrev S16384 : Shape := ⟨1, ![16384]⟩
abbrev S100000x64 : Shape := ⟨2, ![100000, 64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x64 .f32) (main_arg1 : IVec S16384 32) (main_arg2 : FVec F S100000x64 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 100000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x64 : Shape := ⟨2, ![16384, 64]⟩
abbrev S16384 : Shape := ⟨1, ![16384]⟩
abbrev S100000x64 : Shape := ⟨2, ![100000, 64]⟩
abbrev S512 : Shape := ⟨1, ![512]⟩
abbrev S256x64 : Shape := ⟨2, ![256, 64]⟩
abbrev S16 : Shape := ⟨1, ![16]⟩
abbrev S_ : Shape := ⟨0, ![]⟩
abbrev S1 : Shape := ⟨1, ![1]⟩
abbrev S1x64 : Shape := ⟨2, ![1, 64]⟩
abbrev S64 : Shape := ⟨1, ![64]⟩
abbrev S1x16 : Shape := ⟨2, ![1, 16]⟩

abbrev nBuf : Table → Nat
  | .hbm => 8
  | .local .scVector .vmem => 5
  | _ => 0

abbrev bufTy : (tb : Table) → Fin (nBuf tb) → BufTy
  | .hbm, ⟨0, _⟩ => ⟨S16384x64, .f32⟩
  | .hbm, ⟨1, _⟩ => ⟨S16384, .i32⟩
  | .hbm, ⟨2, _⟩ => ⟨S100000x64, .f32⟩
  | .hbm, ⟨3, _⟩ => ⟨S512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local .scVector .vmem, ⟨0, _⟩ => ⟨S512, .i32⟩
  | .local .scVector .vmem, ⟨1, _⟩ => ⟨S256x64, .f32⟩
  | .local .scVector .vmem, ⟨2, _⟩ => ⟨S256x64, .f32⟩
  | .local .scVector .vmem, ⟨3, _⟩ => ⟨S256x64, .f32⟩
  | .local .scVector .vmem, ⟨4, _⟩ => ⟨S16, .f32⟩
  | _, _ => ⟨S16384x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  ![v2.toNat, 0]
@[reducible] def k0_t1_loop : Scf.Loop 32 :=
  let c0_i32_2 : BitVec 32 := 0#32
  let c16_i32 : BitVec 32 := 16#32
  let v5 : BitVec 32 := Scalar.addi c0_i32_2 c16_i32
  let c1_i32 : BitVec 32 := 1#32
  ⟨c0_i32_2, v5, c1_i32⟩
def k0_off3 (k0_t1 : Fin k0_t1_loop.trips) : Fin 1 → Nat :=
  let c0_i32_2 : BitVec 32 := 0#32
  let c1_i32 : BitVec 32 := 1#32
  let arg14 : BitVec 32 := Scf.iv c0_i32_2 c1_i32 k0_t1
  let c16_i32_34 : BitVec 32 := 16#32
  let v32 : BitVec 32 := Scalar.muli arg14 c16_i32_34
  let v33 : Index := Scalar.indexCast v32
  ![v33.toNat]
def k0_off4 (k0_t1 : Fin k0_t1_loop.trips) : Fin 2 → Nat :=
  let c0_i32_2 : BitVec 32 := 0#32
  let c1_i32 : BitVec 32 := 1#32
  let arg14 : BitVec 32 := Scf.iv c0_i32_2 c1_i32 k0_t1
  let c16_i32_35 : BitVec 32 := 16#32
  let v38 : BitVec 32 := Scalar.muli arg14 c16_i32_35
  let c0_i32_36 : BitVec 32 := 0#32
  let v39 : BitVec 32 := Scalar.addi v38 c0_i32_36
  let c0_i32_37 : BitVec 32 := 0#32
  ![v39.toNat, 0]
def k0_off5 (v37 : BitVec 32) : Fin 2 → Nat :=
  let c0_i32_38 : BitVec 32 := 0#32
  ![v37.toNat, 0]

def k0_chk1 (v37 : BitVec 32) : Prop :=
  (∀ a, (k0_off5 v37) a + S1x64.size a ≤ S100000x64.size a)
theorem k0_off5_inb : ∀ (v37 : BitVec 32) (k0_hw1 : k0_chk1 v37), ∀ a, (k0_off5 v37) a + S1x64.size a ≤ S100000x64.size a := fun v37 k0_hw1 => k0_hw1

def k0_off6 (k0_t1 : Fin k0_t1_loop.trips) (c0_i32_36 : BitVec 32) : Fin 2 → Nat :=
  let c0_i32_2 : BitVec 32 := 0#32
  let c1_i32 : BitVec 32 := 1#32
  let arg14 : BitVec 32 := Scf.iv c0_i32_2 c1_i32 k0_t1
  let c16_i32_35 : BitVec 32 := 16#32
  let v38 : BitVec 32 := Scalar.muli arg14 c16_i32_35
  let v39 : BitVec 32 := Scalar.addi v38 c0_i32_36
  let c0_i32_39 : BitVec 32 := 0#32
  ![v39.toNat, 0]
def k0_off7 (v49 : BitVec 32) : Fin 2 → Nat :=
  let c0_i32_44 : BitVec 32 := 0#32
  ![v49.toNat, 0]

def k0_chk2 (v49 : BitVec 32) : Prop :=
  (∀ a, (k0_off7 v49) a + S1x64.size a ≤ S100000x64.size a)
theorem k0_off7_inb : ∀ (v49 : BitVec 32) (k0_hw2 : k0_chk2 v49), ∀ a, (k0_off7 v49) a + S1x64.size a ≤ S100000x64.size a := fun v49 k0_hw2 => k0_hw2

def k0_off8 (k0_t1 : Fin k0_t1_loop.trips) (c1_i32_42 : BitVec 32) : Fin 2 → Nat :=
  let c0_i32_2 : BitVec 32 := 0#32
  let c1_i32 : BitVec 32 := 1#32
  let arg14 : BitVec 32 := Scf.iv c0_i32_2 c1_i32 k0_t1
  let c16_i32_41 : BitVec 32 := 16#32
  let v50 : BitVec 32 := Scalar.muli arg14 c16_i32_41
  let v51 : BitVec 32 := Scalar.addi v50 c1_i32_42
  let c0_i32_45 : BitVec 32 := 0#32
  ![v51.toNat, 0]
def k0_off9 (v61 : BitVec 32) : Fin 2 → Nat :=
  let c0_i32_50 : BitVec 32 := 0#32
  ![v61.toNat, 0]

def k0_chk3 (v61 : BitVec 32) : Prop :=
  (∀ a, (k0_off9 v61) a + S1x64.size a ≤ S100000x64.size a)
theorem k0_off9_inb : ∀ (v61 : BitVec 32) (k0_hw3 : k0_chk3 v61), ∀ a, (k0_off9 v61) a + S1x64.size a ≤ S100000x64.size a := fun v61 k0_hw3 => k0_hw3

def k0_off10 (k0_t1 : Fin k0_t1_loop.trips) (c2_i32_48 : BitVec 32) : Fin 2 → Nat :=
  let c0_i32_2 : BitVec 32 := 0#32
  let c1_i32 : BitVec 32 := 1#32
  let arg14 : BitVec 32 := Scf.iv c0_i32_2 c1_i32 k0_t1
  let c16_i32_47 : BitVec 32 := 16#32
  let v62 : BitVec 32 := Scalar.muli arg14 c16_i32_47
  let v63 : BitVec 32 := Scalar.addi v62 c2_i32_48
  let c0_i32_51 : BitVec 32 := 0#32
  ![v63.toNat, 0]
def k0_off11 (v73 : BitVec 32) : Fin 2 → Nat :=
  let c0_i32_55 : BitVec 32 := 0#32
  ![v73.toNat, 0]

def k0_chk4 (v73 : BitVec 32) : Prop :=
  (∀ a, (k0_off11 v73) a + S1x64.size a ≤ S100000x64.size a)
theorem k0_off11_inb : ∀ (v73 : BitVec 32) (k0_hw4 : k0_chk4 v73), ∀ a, (k0_off11 v73) a + S1x64.size a ≤ S100000x64.size a := fun v73 k0_hw4 => k0_hw4

def k0_off12 (k0_t1 : Fin k0_t1_loop.trips) (c3_i32 : BitVec 32) : Fin 2 → Nat :=
  let c0_i32_2 : BitVec 32 := 0#32
  let c1_i32 : BitVec 32 := 1#32
  let arg14 : BitVec 32 := Scf.iv c0_i32_2 c1_i32 k0_t1
  let c16_i32_53 : BitVec 32 := 16#32
  let v74 : BitVec 32 := Scalar.muli arg14 c16_i32_53
  let v75 : BitVec 32 := Scalar.addi v74 c3_i32
  let c0_i32_56 : BitVec 32 := 0#32
  ![v75.toNat, 0]
def k0_off13 (v85 : BitVec 32) : Fin 2 → Nat :=
  let c0_i32_60 : BitVec 32 := 0#32
  ![v85.toNat, 0]

def k0_chk5 (v85 : BitVec 32) : Prop :=
  (∀ a, (k0_off13 v85) a + S1x64.size a ≤ S100000x64.size a)
theorem k0_off13_inb : ∀ (v85 : BitVec 32) (k0_hw5 : k0_chk5 v85), ∀ a, (k0_off13 v85) a + S1x64.size a ≤ S100000x64.size a := fun v85 k0_hw5 => k0_hw5

def k0_off14 (k0_t1 : Fin k0_t1_loop.trips) (c4_i32 : BitVec 32) : Fin 2 → Nat :=
  let c0_i32_2 : BitVec 32 := 0#32
  let c1_i32 : BitVec 32 := 1#32
  let arg14 : BitVec 32 := Scf.iv c0_i32_2 c1_i32 k0_t1
  let c16_i32_58 : BitVec 32 := 16#32
  let v86 : BitVec 32 := Scalar.muli arg14 c16_i32_58
  let v87 : BitVec 32 := Scalar.addi v86 c4_i32
  let c0_i32_61 : BitVec 32 := 0#32
  ![v87.toNat, 0]
def k0_off15 (v97 : BitVec 32) : Fin 2 → Nat :=
  let c0_i32_65 : BitVec 32 := 0#32
  ![v97.toNat, 0]

def k0_chk6 (v97 : BitVec 32) : Prop :=
  (∀ a, (k0_off15 v97) a + S1x64.size a ≤ S100000x64.size a)
theorem k0_off15_inb : ∀ (v97 : BitVec 32) (k0_hw6 : k0_chk6 v97), ∀ a, (k0_off15 v97) a + S1x64.size a ≤ S100000x64.size a := fun v97 k0_hw6 => k0_hw6

def k0_off16 (k0_t1 : Fin k0_t1_loop.trips) (c5_i32 : BitVec 32) : Fin 2 → Nat :=
  let c0_i32_2 : BitVec 32 := 0#32
  let c1_i32 : BitVec 32 := 1#32
  let arg14 : BitVec 32 := Scf.iv c0_i32_2 c1_i32 k0_t1
  let c16_i32_63 : BitVec 32 := 16#32
  let v98 : BitVec 32 := Scalar.muli arg14 c16_i32_63
  let v99 : BitVec 32 := Scalar.addi v98 c5_i32
  let c0_i32_66 : BitVec 32 := 0#32
  ![v99.toNat, 0]
def k0_off17 (v109 : BitVec 32) : Fin 2 → Nat :=
  let c0_i32_70 : BitVec 32 := 0#32
  ![v109.toNat, 0]

def k0_chk7 (v109 : BitVec 32) : Prop :=
  (∀ a, (k0_off17 v109) a + S1x64.size a ≤ S100000x64.size a)
theorem k0_off17_inb : ∀ (v109 : BitVec 32) (k0_hw7 : k0_chk7 v109), ∀ a, (k0_off17 v109) a + S1x64.size a ≤ S100000x64.size a := fun v109 k0_hw7 => k0_hw7

def k0_off18 (k0_t1 : Fin k0_t1_loop.trips) (c6_i32 : BitVec 32) : Fin 2 → Nat :=
  let c0_i32_2 : BitVec 32 := 0#32
  let c1_i32 : BitVec 32 := 1#32
  let arg14 : BitVec 32 := Scf.iv c0_i32_2 c1_i32 k0_t1
  let c16_i32_68 : BitVec 32 := 16#32
  let v110 : BitVec 32 := Scalar.muli arg14 c16_i32_68
  let v111 : BitVec 32 := Scalar.addi v110 c6_i32
  let c0_i32_71 : BitVec 32 := 0#32
  ![v111.toNat, 0]
def k0_off19 (v121 : BitVec 32) : Fin 2 → Nat :=
  let c0_i32_75 : BitVec 32 := 0#32
  ![v121.toNat, 0]

def k0_chk8 (v121 : BitVec 32) : Prop :=
  (∀ a, (k0_off19 v121) a + S1x64.size a ≤ S100000x64.size a)
theorem k0_off19_inb : ∀ (v121 : BitVec 32) (k0_hw8 : k0_chk8 v121), ∀ a, (k0_off19 v121) a + S1x64.size a ≤ S100000x64.size a := fun v121 k0_hw8 => k0_hw8

def k0_off20 (k0_t1 : Fin k0_t1_loop.trips) (c7_i32 : BitVec 32) : Fin 2 → Nat :=
  let c0_i32_2 : BitVec 32 := 0#32
  let c1_i32 : BitVec 32 := 1#32
  let arg14 : BitVec 32 := Scf.iv c0_i32_2 c1_i32 k0_t1
  let c16_i32_73 : BitVec 32 := 16#32
  let v122 : BitVec 32 := Scalar.muli arg14 c16_i32_73
  let v123 : BitVec 32 := Scalar.addi v122 c7_i32
  let c0_i32_76 : BitVec 32 := 0#32
  ![v123.toNat, 0]
def k0_off21 (v133 : BitVec 32) : Fin 2 → Nat :=
  let c0_i32_80 : BitVec 32 := 0#32
  ![v133.toNat, 0]

def k0_chk9 (v133 : BitVec 32) : Prop :=
  (∀ a, (k0_off21 v133) a + S1x64.size a ≤ S100000x64.size a)
theorem k0_off21_inb : ∀ (v133 : BitVec 32) (k0_hw9 : k0_chk9 v133), ∀ a, (k0_off21 v133) a + S1x64.size a ≤ S100000x64.size a := fun v133 k0_hw9 => k0_hw9

def k0_off22 (k0_t1 : Fin k0_t1_loop.trips) (c8_i32 : BitVec 32) : Fin 2 → Nat :=
  let c0_i32_2 : BitVec 32 := 0#32
  let c1_i32 : BitVec 32 := 1#32
  let arg14 : BitVec 32 := Scf.iv c0_i32_2 c1_i32 k0_t1
  let c16_i32_78 : BitVec 32 := 16#32
  let v134 : BitVec 32 := Scalar.muli arg14 c16_i32_78
  let v135 : BitVec 32 := Scalar.addi v134 c8_i32
  let c0_i32_81 : BitVec 32 := 0#32
  ![v135.toNat, 0]
def k0_off23 (v145 : BitVec 32) : Fin 2 → Nat :=
  let c0_i32_85 : BitVec 32 := 0#32
  ![v145.toNat, 0]

def k0_chk10 (v145 : BitVec 32) : Prop :=
  (∀ a, (k0_off23 v145) a + S1x64.size a ≤ S100000x64.size a)
theorem k0_off23_inb : ∀ (v145 : BitVec 32) (k0_hw10 : k0_chk10 v145), ∀ a, (k0_off23 v145) a + S1x64.size a ≤ S100000x64.size a := fun v145 k0_hw10 => k0_hw10

def k0_off24 (k0_t1 : Fin k0_t1_loop.trips) (c9_i32 : BitVec 32) : Fin 2 → Nat :=
  let c0_i32_2 : BitVec 32 := 0#32
  let c1_i32 : BitVec 32 := 1#32
  let arg14 : BitVec 32 := Scf.iv c0_i32_2 c1_i32 k0_t1
  let c16_i32_83 : BitVec 32 := 16#32
  let v146 : BitVec 32 := Scalar.muli arg14 c16_i32_83
  let v147 : BitVec 32 := Scalar.addi v146 c9_i32
  let c0_i32_86 : BitVec 32 := 0#32
  ![v147.toNat, 0]
def k0_off25 (v157 : BitVec 32) : Fin 2 → Nat :=
  let c0_i32_90 : BitVec 32 := 0#32
  ![v157.toNat, 0]

def k0_chk11 (v157 : BitVec 32) : Prop :=
  (∀ a, (k0_off25 v157) a + S1x64.size a ≤ S100000x64.size a)
theorem k0_off25_inb : ∀ (v157 : BitVec 32) (k0_hw11 : k0_chk11 v157), ∀ a, (k0_off25 v157) a + S1x64.size a ≤ S100000x64.size a := fun v157 k0_hw11 => k0_hw11

def k0_off26 (k0_t1 : Fin k0_t1_loop.trips) (c10_i32 : BitVec 32) : Fin 2 → Nat :=
  let c0_i32_2 : BitVec 32 := 0#32
  let c1_i32 : BitVec 32 := 1#32
  let arg14 : BitVec 32 := Scf.iv c0_i32_2 c1_i32 k0_t1
  let c16_i32_88 : BitVec 32 := 16#32
  let v158 : BitVec 32 := Scalar.muli arg14 c16_i32_88
  let v159 : BitVec 32 := Scalar.addi v158 c10_i32
  let c0_i32_91 : BitVec 32 := 0#32
  ![v159.toNat, 0]
def k0_off27 (v169 : BitVec 32) : Fin 2 → Nat :=
  let c0_i32_95 : BitVec 32 := 0#32
  ![v169.toNat, 0]

def k0_chk12 (v169 : BitVec 32) : Prop :=
  (∀ a, (k0_off27 v169) a + S1x64.size a ≤ S100000x64.size a)
theorem k0_off27_inb : ∀ (v169 : BitVec 32) (k0_hw12 : k0_chk12 v169), ∀ a, (k0_off27 v169) a + S1x64.size a ≤ S100000x64.size a := fun v169 k0_hw12 => k0_hw12

def k0_off28 (k0_t1 : Fin k0_t1_loop.trips) (c11_i32 : BitVec 32) : Fin 2 → Nat :=
  let c0_i32_2 : BitVec 32 := 0#32
  let c1_i32 : BitVec 32 := 1#32
  let arg14 : BitVec 32 := Scf.iv c0_i32_2 c1_i32 k0_t1
  let c16_i32_93 : BitVec 32 := 16#32
  let v170 : BitVec 32 := Scalar.muli arg14 c16_i32_93
  let v171 : BitVec 32 := Scalar.addi v170 c11_i32
  let c0_i32_96 : BitVec 32 := 0#32
  ![v171.toNat, 0]
def k0_off29 (v181 : BitVec 32) : Fin 2 → Nat :=
  let c0_i32_100 : BitVec 32 := 0#32
  ![v181.toNat, 0]

def k0_chk13 (v181 : BitVec 32) : Prop :=
  (∀ a, (k0_off29 v181) a + S1x64.size a ≤ S100000x64.size a)
theorem k0_off29_inb : ∀ (v181 : BitVec 32) (k0_hw13 : k0_chk13 v181), ∀ a, (k0_off29 v181) a + S1x64.size a ≤ S100000x64.size a := fun v181 k0_hw13 => k0_hw13

def k0_off30 (k0_t1 : Fin k0_t1_loop.trips) (c12_i32 : BitVec 32) : Fin 2 → Nat :=
  let c0_i32_2 : BitVec 32 := 0#32
  let c1_i32 : BitVec 32 := 1#32
  let arg14 : BitVec 32 := Scf.iv c0_i32_2 c1_i32 k0_t1
  let c16_i32_98 : BitVec 32 := 16#32
  let v182 : BitVec 32 := Scalar.muli arg14 c16_i32_98
  let v183 : BitVec 32 := Scalar.addi v182 c12_i32
  let c0_i32_101 : BitVec 32 := 0#32
  ![v183.toNat, 0]
def k0_off31 (v193 : BitVec 32) : Fin 2 → Nat :=
  let c0_i32_105 : BitVec 32 := 0#32
  ![v193.toNat, 0]

def k0_chk14 (v193 : BitVec 32) : Prop :=
  (∀ a, (k0_off31 v193) a + S1x64.size a ≤ S100000x64.size a)
theorem k0_off31_inb : ∀ (v193 : BitVec 32) (k0_hw14 : k0_chk14 v193), ∀ a, (k0_off31 v193) a + S1x64.size a ≤ S100000x64.size a := fun v193 k0_hw14 => k0_hw14

def k0_off32 (k0_t1 : Fin k0_t1_loop.trips) (c13_i32 : BitVec 32) : Fin 2 → Nat :=
  let c0_i32_2 : BitVec 32 := 0#32
  let c1_i32 : BitVec 32 := 1#32
  let arg14 : BitVec 32 := Scf.iv c0_i32_2 c1_i32 k0_t1
  let c16_i32_103 : BitVec 32 := 16#32
  let v194 : BitVec 32 := Scalar.muli arg14 c16_i32_103
  let v195 : BitVec 32 := Scalar.addi v194 c13_i32
  let c0_i32_106 : BitVec 32 := 0#32
  ![v195.toNat, 0]
def k0_off33 (v205 : BitVec 32) : Fin 2 → Nat :=
  let c0_i32_110 : BitVec 32 := 0#32
  ![v205.toNat, 0]

def k0_chk15 (v205 : BitVec 32) : Prop :=
  (∀ a, (k0_off33 v205) a + S1x64.size a ≤ S100000x64.size a)
theorem k0_off33_inb : ∀ (v205 : BitVec 32) (k0_hw15 : k0_chk15 v205), ∀ a, (k0_off33 v205) a + S1x64.size a ≤ S100000x64.size a := fun v205 k0_hw15 => k0_hw15

def k0_off34 (k0_t1 : Fin k0_t1_loop.trips) (c14_i32 : BitVec 32) : Fin 2 → Nat :=
  let c0_i32_2 : BitVec 32 := 0#32
  let c1_i32 : BitVec 32 := 1#32
  let arg14 : BitVec 32 := Scf.iv c0_i32_2 c1_i32 k0_t1
  let c16_i32_108 : BitVec 32 := 16#32
  let v206 : BitVec 32 := Scalar.muli arg14 c16_i32_108
  let v207 : BitVec 32 := Scalar.addi v206 c14_i32
  let c0_i32_111 : BitVec 32 := 0#32
  ![v207.toNat, 0]
def k0_off35 (v217 : BitVec 32) : Fin 2 → Nat :=
  let c0_i32_115 : BitVec 32 := 0#32
  ![v217.toNat, 0]

def k0_chk16 (v217 : BitVec 32) : Prop :=
  (∀ a, (k0_off35 v217) a + S1x64.size a ≤ S100000x64.size a)
theorem k0_off35_inb : ∀ (v217 : BitVec 32) (k0_hw16 : k0_chk16 v217), ∀ a, (k0_off35 v217) a + S1x64.size a ≤ S100000x64.size a := fun v217 k0_hw16 => k0_hw16

def k0_off36 (k0_t1 : Fin k0_t1_loop.trips) : Fin 2 → Nat :=
  let c0_i32_2 : BitVec 32 := 0#32
  let c1_i32 : BitVec 32 := 1#32
  let arg14 : BitVec 32 := Scf.iv c0_i32_2 c1_i32 k0_t1
  let c16_i32_113 : BitVec 32 := 16#32
  let v218 : BitVec 32 := Scalar.muli arg14 c16_i32_113
  let c15_i32 : BitVec 32 := 15#32
  let v219 : BitVec 32 := Scalar.addi v218 c15_i32
  let c0_i32_116 : BitVec 32 := 0#32
  ![v219.toNat, 0]
@[reducible] def k0_t2_loop : Scf.Loop 32 :=
  let c0_i32_5 : BitVec 32 := 0#32
  let c16_i32_6 : BitVec 32 := 16#32
  let v7 : BitVec 32 := Scalar.addi c0_i32_5 c16_i32_6
  let c1_i32_7 : BitVec 32 := 1#32
  ⟨c0_i32_5, v7, c1_i32_7⟩
def k0_off37 (k0_t2 : Fin k0_t2_loop.trips) : Fin 1 → Nat :=
  let c256_i32_35 : BitVec 32 := 256#32
  let c0_i32_5 : BitVec 32 := 0#32
  let c1_i32_7 : BitVec 32 := 1#32
  let arg14 : BitVec 32 := Scf.iv c0_i32_5 c1_i32_7 k0_t2
  let c16_i32_34 : BitVec 32 := 16#32
  let v32 : BitVec 32 := Scalar.muli arg14 c16_i32_34
  let v33 : BitVec 32 := Scalar.addi c256_i32_35 v32
  let v34 : Index := Scalar.indexCast v33
  ![v34.toNat]
def k0_off38 (k0_t2 : Fin k0_t2_loop.trips) : Fin 2 → Nat :=
  let c0_i32_5 : BitVec 32 := 0#32
  let c1_i32_7 : BitVec 32 := 1#32
  let arg14 : BitVec 32 := Scf.iv c0_i32_5 c1_i32_7 k0_t2
  let c16_i32_36 : BitVec 32 := 16#32
  let v39 : BitVec 32 := Scalar.muli arg14 c16_i32_36
  let c0_i32_37 : BitVec 32 := 0#32
  let v40 : BitVec 32 := Scalar.addi v39 c0_i32_37
  let c0_i32_38 : BitVec 32 := 0#32
  ![v40.toNat, 0]
def k0_off39 (v38 : BitVec 32) : Fin 2 → Nat :=
  let c0_i32_39 : BitVec 32 := 0#32
  ![v38.toNat, 0]

def k0_chk17 (v38 : BitVec 32) : Prop :=
  (∀ a, (k0_off39 v38) a + S1x64.size a ≤ S100000x64.size a)
theorem k0_off39_inb : ∀ (v38 : BitVec 32) (k0_hw17 : k0_chk17 v38), ∀ a, (k0_off39 v38) a + S1x64.size a ≤ S100000x64.size a := fun v38 k0_hw17 => k0_hw17

def k0_off40 (k0_t2 : Fin k0_t2_loop.trips) (c0_i32_37 : BitVec 32) : Fin 2 → Nat :=
  let c0_i32_5 : BitVec 32 := 0#32
  let c1_i32_7 : BitVec 32 := 1#32
  let arg14 : BitVec 32 := Scf.iv c0_i32_5 c1_i32_7 k0_t2
  let c16_i32_36 : BitVec 32 := 16#32
  let v39 : BitVec 32 := Scalar.muli arg14 c16_i32_36
  let v40 : BitVec 32 := Scalar.addi v39 c0_i32_37
  let c0_i32_40 : BitVec 32 := 0#32
  ![v40.toNat, 0]
def k0_off41 (v50 : BitVec 32) : Fin 2 → Nat :=
  let c0_i32_45 : BitVec 32 := 0#32
  ![v50.toNat, 0]

def k0_chk18 (v50 : BitVec 32) : Prop :=
  (∀ a, (k0_off41 v50) a + S1x64.size a ≤ S100000x64.size a)
theorem k0_off41_inb : ∀ (v50 : BitVec 32) (k0_hw18 : k0_chk18 v50), ∀ a, (k0_off41 v50) a + S1x64.size a ≤ S100000x64.size a := fun v50 k0_hw18 => k0_hw18

def k0_off42 (k0_t2 : Fin k0_t2_loop.trips) (c1_i32_43 : BitVec 32) : Fin 2 → Nat :=
  let c0_i32_5 : BitVec 32 := 0#32
  let c1_i32_7 : BitVec 32 := 1#32
  let arg14 : BitVec 32 := Scf.iv c0_i32_5 c1_i32_7 k0_t2
  let c16_i32_42 : BitVec 32 := 16#32
  let v51 : BitVec 32 := Scalar.muli arg14 c16_i32_42
  let v52 : BitVec 32 := Scalar.addi v51 c1_i32_43
  let c0_i32_46 : BitVec 32 := 0#32
  ![v52.toNat, 0]
def k0_off43 (v62 : BitVec 32) : Fin 2 → Nat :=
  let c0_i32_51 : BitVec 32 := 0#32
  ![v62.toNat, 0]

def k0_chk19 (v62 : BitVec 32) : Prop :=
  (∀ a, (k0_off43 v62) a + S1x64.size a ≤ S100000x64.size a)
theorem k0_off43_inb : ∀ (v62 : BitVec 32) (k0_hw19 : k0_chk19 v62), ∀ a, (k0_off43 v62) a + S1x64.size a ≤ S100000x64.size a := fun v62 k0_hw19 => k0_hw19

def k0_off44 (k0_t2 : Fin k0_t2_loop.trips) (c2_i32_49 : BitVec 32) : Fin 2 → Nat :=
  let c0_i32_5 : BitVec 32 := 0#32
  let c1_i32_7 : BitVec 32 := 1#32
  let arg14 : BitVec 32 := Scf.iv c0_i32_5 c1_i32_7 k0_t2
  let c16_i32_48 : BitVec 32 := 16#32
  let v63 : BitVec 32 := Scalar.muli arg14 c16_i32_48
  let v64 : BitVec 32 := Scalar.addi v63 c2_i32_49
  let c0_i32_52 : BitVec 32 := 0#32
  ![v64.toNat, 0]
def k0_off45 (v74 : BitVec 32) : Fin 2 → Nat :=
  let c0_i32_56 : BitVec 32 := 0#32
  ![v74.toNat, 0]

def k0_chk20 (v74 : BitVec 32) : Prop :=
  (∀ a, (k0_off45 v74) a + S1x64.size a ≤ S100000x64.size a)
theorem k0_off45_inb : ∀ (v74 : BitVec 32) (k0_hw20 : k0_chk20 v74), ∀ a, (k0_off45 v74) a + S1x64.size a ≤ S100000x64.size a := fun v74 k0_hw20 => k0_hw20

def k0_off46 (k0_t2 : Fin k0_t2_loop.trips) (c3_i32 : BitVec 32) : Fin 2 → Nat :=
  let c0_i32_5 : BitVec 32 := 0#32
  let c1_i32_7 : BitVec 32 := 1#32
  let arg14 : BitVec 32 := Scf.iv c0_i32_5 c1_i32_7 k0_t2
  let c16_i32_54 : BitVec 32 := 16#32
  let v75 : BitVec 32 := Scalar.muli arg14 c16_i32_54
  let v76 : BitVec 32 := Scalar.addi v75 c3_i32
  let c0_i32_57 : BitVec 32 := 0#32
  ![v76.toNat, 0]
def k0_off47 (v86 : BitVec 32) : Fin 2 → Nat :=
  let c0_i32_61 : BitVec 32 := 0#32
  ![v86.toNat, 0]

def k0_chk21 (v86 : BitVec 32) : Prop :=
  (∀ a, (k0_off47 v86) a + S1x64.size a ≤ S100000x64.size a)
theorem k0_off47_inb : ∀ (v86 : BitVec 32) (k0_hw21 : k0_chk21 v86), ∀ a, (k0_off47 v86) a + S1x64.size a ≤ S100000x64.size a := fun v86 k0_hw21 => k0_hw21

def k0_off48 (k0_t2 : Fin k0_t2_loop.trips) (c4_i32 : BitVec 32) : Fin 2 → Nat :=
  let c0_i32_5 : BitVec 32 := 0#32
  let c1_i32_7 : BitVec 32 := 1#32
  let arg14 : BitVec 32 := Scf.iv c0_i32_5 c1_i32_7 k0_t2
  let c16_i32_59 : BitVec 32 := 16#32
  let v87 : BitVec 32 := Scalar.muli arg14 c16_i32_59
  let v88 : BitVec 32 := Scalar.addi v87 c4_i32
  let c0_i32_62 : BitVec 32 := 0#32
  ![v88.toNat, 0]
def k0_off49 (v98 : BitVec 32) : Fin 2 → Nat :=
  let c0_i32_66 : BitVec 32 := 0#32
  ![v98.toNat, 0]

def k0_chk22 (v98 : BitVec 32) : Prop :=
  (∀ a, (k0_off49 v98) a + S1x64.size a ≤ S100000x64.size a)
theorem k0_off49_inb : ∀ (v98 : BitVec 32) (k0_hw22 : k0_chk22 v98), ∀ a, (k0_off49 v98) a + S1x64.size a ≤ S100000x64.size a := fun v98 k0_hw22 => k0_hw22

def k0_off50 (k0_t2 : Fin k0_t2_loop.trips) (c5_i32 : BitVec 32) : Fin 2 → Nat :=
  let c0_i32_5 : BitVec 32 := 0#32
  let c1_i32_7 : BitVec 32 := 1#32
  let arg14 : BitVec 32 := Scf.iv c0_i32_5 c1_i32_7 k0_t2
  let c16_i32_64 : BitVec 32 := 16#32
  let v99 : BitVec 32 := Scalar.muli arg14 c16_i32_64
  let v100 : BitVec 32 := Scalar.addi v99 c5_i32
  let c0_i32_67 : BitVec 32 := 0#32
  ![v100.toNat, 0]
def k0_off51 (v110 : BitVec 32) : Fin 2 → Nat :=
  let c0_i32_71 : BitVec 32 := 0#32
  ![v110.toNat, 0]

def k0_chk23 (v110 : BitVec 32) : Prop :=
  (∀ a, (k0_off51 v110) a + S1x64.size a ≤ S100000x64.size a)
theorem k0_off51_inb : ∀ (v110 : BitVec 32) (k0_hw23 : k0_chk23 v110), ∀ a, (k0_off51 v110) a + S1x64.size a ≤ S100000x64.size a := fun v110 k0_hw23 => k0_hw23

def k0_off52 (k0_t2 : Fin k0_t2_loop.trips) (c6_i32 : BitVec 32) : Fin 2 → Nat :=
  let c0_i32_5 : BitVec 32 := 0#32
  let c1_i32_7 : BitVec 32 := 1#32
  let arg14 : BitVec 32 := Scf.iv c0_i32_5 c1_i32_7 k0_t2
  let c16_i32_69 : BitVec 32 := 16#32
  let v111 : BitVec 32 := Scalar.muli arg14 c16_i32_69
  let v112 : BitVec 32 := Scalar.addi v111 c6_i32
  let c0_i32_72 : BitVec 32 := 0#32
  ![v112.toNat, 0]
def k0_off53 (v122 : BitVec 32) : Fin 2 → Nat :=
  let c0_i32_76 : BitVec 32 := 0#32
  ![v122.toNat, 0]

def k0_chk24 (v122 : BitVec 32) : Prop :=
  (∀ a, (k0_off53 v122) a + S1x64.size a ≤ S100000x64.size a)
theorem k0_off53_inb : ∀ (v122 : BitVec 32) (k0_hw24 : k0_chk24 v122), ∀ a, (k0_off53 v122) a + S1x64.size a ≤ S100000x64.size a := fun v122 k0_hw24 => k0_hw24

def k0_off54 (k0_t2 : Fin k0_t2_loop.trips) (c7_i32 : BitVec 32) : Fin 2 → Nat :=
  let c0_i32_5 : BitVec 32 := 0#32
  let c1_i32_7 : BitVec 32 := 1#32
  let arg14 : BitVec 32 := Scf.iv c0_i32_5 c1_i32_7 k0_t2
  let c16_i32_74 : BitVec 32 := 16#32
  let v123 : BitVec 32 := Scalar.muli arg14 c16_i32_74
  let v124 : BitVec 32 := Scalar.addi v123 c7_i32
  let c0_i32_77 : BitVec 32 := 0#32
  ![v124.toNat, 0]
def k0_off55 (v134 : BitVec 32) : Fin 2 → Nat :=
  let c0_i32_81 : BitVec 32 := 0#32
  ![v134.toNat, 0]

def k0_chk25 (v134 : BitVec 32) : Prop :=
  (∀ a, (k0_off55 v134) a + S1x64.size a ≤ S100000x64.size a)
theorem k0_off55_inb : ∀ (v134 : BitVec 32) (k0_hw25 : k0_chk25 v134), ∀ a, (k0_off55 v134) a + S1x64.size a ≤ S100000x64.size a := fun v134 k0_hw25 => k0_hw25

def k0_off56 (k0_t2 : Fin k0_t2_loop.trips) (c8_i32 : BitVec 32) : Fin 2 → Nat :=
  let c0_i32_5 : BitVec 32 := 0#32
  let c1_i32_7 : BitVec 32 := 1#32
  let arg14 : BitVec 32 := Scf.iv c0_i32_5 c1_i32_7 k0_t2
  let c16_i32_79 : BitVec 32 := 16#32
  let v135 : BitVec 32 := Scalar.muli arg14 c16_i32_79
  let v136 : BitVec 32 := Scalar.addi v135 c8_i32
  let c0_i32_82 : BitVec 32 := 0#32
  ![v136.toNat, 0]
def k0_off57 (v146 : BitVec 32) : Fin 2 → Nat :=
  let c0_i32_86 : BitVec 32 := 0#32
  ![v146.toNat, 0]

def k0_chk26 (v146 : BitVec 32) : Prop :=
  (∀ a, (k0_off57 v146) a + S1x64.size a ≤ S100000x64.size a)
theorem k0_off57_inb : ∀ (v146 : BitVec 32) (k0_hw26 : k0_chk26 v146), ∀ a, (k0_off57 v146) a + S1x64.size a ≤ S100000x64.size a := fun v146 k0_hw26 => k0_hw26

def k0_off58 (k0_t2 : Fin k0_t2_loop.trips) (c9_i32 : BitVec 32) : Fin 2 → Nat :=
  let c0_i32_5 : BitVec 32 := 0#32
  let c1_i32_7 : BitVec 32 := 1#32
  let arg14 : BitVec 32 := Scf.iv c0_i32_5 c1_i32_7 k0_t2
  let c16_i32_84 : BitVec 32 := 16#32
  let v147 : BitVec 32 := Scalar.muli arg14 c16_i32_84
  let v148 : BitVec 32 := Scalar.addi v147 c9_i32
  let c0_i32_87 : BitVec 32 := 0#32
  ![v148.toNat, 0]
def k0_off59 (v158 : BitVec 32) : Fin 2 → Nat :=
  let c0_i32_91 : BitVec 32 := 0#32
  ![v158.toNat, 0]

def k0_chk27 (v158 : BitVec 32) : Prop :=
  (∀ a, (k0_off59 v158) a + S1x64.size a ≤ S100000x64.size a)
theorem k0_off59_inb : ∀ (v158 : BitVec 32) (k0_hw27 : k0_chk27 v158), ∀ a, (k0_off59 v158) a + S1x64.size a ≤ S100000x64.size a := fun v158 k0_hw27 => k0_hw27

def k0_off60 (k0_t2 : Fin k0_t2_loop.trips) (c10_i32 : BitVec 32) : Fin 2 → Nat :=
  let c0_i32_5 : BitVec 32 := 0#32
  let c1_i32_7 : BitVec 32 := 1#32
  let arg14 : BitVec 32 := Scf.iv c0_i32_5 c1_i32_7 k0_t2
  let c16_i32_89 : BitVec 32 := 16#32
  let v159 : BitVec 32 := Scalar.muli arg14 c16_i32_89
  let v160 : BitVec 32 := Scalar.addi v159 c10_i32
  let c0_i32_92 : BitVec 32 := 0#32
  ![v160.toNat, 0]
def k0_off61 (v170 : BitVec 32) : Fin 2 → Nat :=
  let c0_i32_96 : BitVec 32 := 0#32
  ![v170.toNat, 0]

def k0_chk28 (v170 : BitVec 32) : Prop :=
  (∀ a, (k0_off61 v170) a + S1x64.size a ≤ S100000x64.size a)
theorem k0_off61_inb : ∀ (v170 : BitVec 32) (k0_hw28 : k0_chk28 v170), ∀ a, (k0_off61 v170) a + S1x64.size a ≤ S100000x64.size a := fun v170 k0_hw28 => k0_hw28

def k0_off62 (k0_t2 : Fin k0_t2_loop.trips) (c11_i32 : BitVec 32) : Fin 2 → Nat :=
  let c0_i32_5 : BitVec 32 := 0#32
  let c1_i32_7 : BitVec 32 := 1#32
  let arg14 : BitVec 32 := Scf.iv c0_i32_5 c1_i32_7 k0_t2
  let c16_i32_94 : BitVec 32 := 16#32
  let v171 : BitVec 32 := Scalar.muli arg14 c16_i32_94
  let v172 : BitVec 32 := Scalar.addi v171 c11_i32
  let c0_i32_97 : BitVec 32 := 0#32
  ![v172.toNat, 0]
def k0_off63 (v182 : BitVec 32) : Fin 2 → Nat :=
  let c0_i32_101 : BitVec 32 := 0#32
  ![v182.toNat, 0]

def k0_chk29 (v182 : BitVec 32) : Prop :=
  (∀ a, (k0_off63 v182) a + S1x64.size a ≤ S100000x64.size a)
theorem k0_off63_inb : ∀ (v182 : BitVec 32) (k0_hw29 : k0_chk29 v182), ∀ a, (k0_off63 v182) a + S1x64.size a ≤ S100000x64.size a := fun v182 k0_hw29 => k0_hw29

def k0_off64 (k0_t2 : Fin k0_t2_loop.trips) (c12_i32 : BitVec 32) : Fin 2 → Nat :=
  let c0_i32_5 : BitVec 32 := 0#32
  let c1_i32_7 : BitVec 32 := 1#32
  let arg14 : BitVec 32 := Scf.iv c0_i32_5 c1_i32_7 k0_t2
  let c16_i32_99 : BitVec 32 := 16#32
  let v183 : BitVec 32 := Scalar.muli arg14 c16_i32_99
  let v184 : BitVec 32 := Scalar.addi v183 c12_i32
  let c0_i32_102 : BitVec 32 := 0#32
  ![v184.toNat, 0]
def k0_off65 (v194 : BitVec 32) : Fin 2 → Nat :=
  let c0_i32_106 : BitVec 32 := 0#32
  ![v194.toNat, 0]

def k0_chk30 (v194 : BitVec 32) : Prop :=
  (∀ a, (k0_off65 v194) a + S1x64.size a ≤ S100000x64.size a)
theorem k0_off65_inb : ∀ (v194 : BitVec 32) (k0_hw30 : k0_chk30 v194), ∀ a, (k0_off65 v194) a + S1x64.size a ≤ S100000x64.size a := fun v194 k0_hw30 => k0_hw30

def k0_off66 (k0_t2 : Fin k0_t2_loop.trips) (c13_i32 : BitVec 32) : Fin 2 → Nat :=
  let c0_i32_5 : BitVec 32 := 0#32
  let c1_i32_7 : BitVec 32 := 1#32
  let arg14 : BitVec 32 := Scf.iv c0_i32_5 c1_i32_7 k0_t2
  let c16_i32_104 : BitVec 32 := 16#32
  let v195 : BitVec 32 := Scalar.muli arg14 c16_i32_104
  let v196 : BitVec 32 := Scalar.addi v195 c13_i32
  let c0_i32_107 : BitVec 32 := 0#32
  ![v196.toNat, 0]
def k0_off67 (v206 : BitVec 32) : Fin 2 → Nat :=
  let c0_i32_111 : BitVec 32 := 0#32
  ![v206.toNat, 0]

def k0_chk31 (v206 : BitVec 32) : Prop :=
  (∀ a, (k0_off67 v206) a + S1x64.size a ≤ S100000x64.size a)
theorem k0_off67_inb : ∀ (v206 : BitVec 32) (k0_hw31 : k0_chk31 v206), ∀ a, (k0_off67 v206) a + S1x64.size a ≤ S100000x64.size a := fun v206 k0_hw31 => k0_hw31

def k0_off68 (k0_t2 : Fin k0_t2_loop.trips) (c14_i32 : BitVec 32) : Fin 2 → Nat :=
  let c0_i32_5 : BitVec 32 := 0#32
  let c1_i32_7 : BitVec 32 := 1#32
  let arg14 : BitVec 32 := Scf.iv c0_i32_5 c1_i32_7 k0_t2
  let c16_i32_109 : BitVec 32 := 16#32
  let v207 : BitVec 32 := Scalar.muli arg14 c16_i32_109
  let v208 : BitVec 32 := Scalar.addi v207 c14_i32
  let c0_i32_112 : BitVec 32 := 0#32
  ![v208.toNat, 0]
def k0_off69 (v218 : BitVec 32) : Fin 2 → Nat :=
  let c0_i32_116 : BitVec 32 := 0#32
  ![v218.toNat, 0]

def k0_chk32 (v218 : BitVec 32) : Prop :=
  (∀ a, (k0_off69 v218) a + S1x64.size a ≤ S100000x64.size a)
theorem k0_off69_inb : ∀ (v218 : BitVec 32) (k0_hw32 : k0_chk32 v218), ∀ a, (k0_off69 v218) a + S1x64.size a ≤ S100000x64.size a := fun v218 k0_hw32 => k0_hw32

def k0_off70 (k0_t2 : Fin k0_t2_loop.trips) : Fin 2 → Nat :=
  let c0_i32_5 : BitVec 32 := 0#32
  let c1_i32_7 : BitVec 32 := 1#32
  let arg14 : BitVec 32 := Scf.iv c0_i32_5 c1_i32_7 k0_t2
  let c16_i32_114 : BitVec 32 := 16#32
  let v219 : BitVec 32 := Scalar.muli arg14 c16_i32_114
  let c15_i32 : BitVec 32 := 15#32
  let v220 : BitVec 32 := Scalar.addi v219 c15_i32
  let c0_i32_117 : BitVec 32 := 0#32
  ![v220.toNat, 0]
@[reducible] def k0_t3_loop : Scf.Loop 32 :=
  let c0_i32_10 : BitVec 32 := 0#32
  let c256_i32 : BitVec 32 := 256#32
  let v10 : BitVec 32 := Scalar.addi c0_i32_10 c256_i32
  let c1_i32_11 : BitVec 32 := 1#32
  ⟨c0_i32_10, v10, c1_i32_11⟩
@[reducible] def k0_t4_loop : Scf.Loop 32 :=
  let c0_i32_15 : BitVec 32 := 0#32
  let c256_i32_16 : BitVec 32 := 256#32
  let v14 : BitVec 32 := Scalar.addi c0_i32_15 c256_i32_16
  let c1_i32_17 : BitVec 32 := 1#32
  ⟨c0_i32_15, v14, c1_i32_17⟩
def k0_off71 (k0_t4 : Fin k0_t4_loop.trips) : Fin 2 → Nat :=
  let c0_i32_15 : BitVec 32 := 0#32
  let c1_i32_17 : BitVec 32 := 1#32
  let arg14 : BitVec 32 := Scf.iv c0_i32_15 c1_i32_17 k0_t4
  let v32 : Index := Scalar.indexCast arg14
  let c0_34 : Index := 0#32
  ![v32.toNat, 0]
def k0_off72 (k0_t4 : Fin k0_t4_loop.trips) : Fin 2 → Nat :=
  let c0_i32_15 : BitVec 32 := 0#32
  let c1_i32_17 : BitVec 32 := 1#32
  let arg14 : BitVec 32 := Scf.iv c0_i32_15 c1_i32_17 k0_t4
  let v41 : Index := Scalar.indexCast arg14
  let c16 : Index := 16#32
  ![v41.toNat, 16]
def k0_off73 (k0_t4 : Fin k0_t4_loop.trips) : Fin 2 → Nat :=
  let c0_i32_15 : BitVec 32 := 0#32
  let c1_i32_17 : BitVec 32 := 1#32
  let arg14 : BitVec 32 := Scf.iv c0_i32_15 c1_i32_17 k0_t4
  let v50 : Index := Scalar.indexCast arg14
  let c32 : Index := 32#32
  ![v50.toNat, 32]
def k0_off74 (k0_t4 : Fin k0_t4_loop.trips) : Fin 2 → Nat :=
  let c0_i32_15 : BitVec 32 := 0#32
  let c1_i32_17 : BitVec 32 := 1#32
  let arg14 : BitVec 32 := Scf.iv c0_i32_15 c1_i32_17 k0_t4
  let v59 : Index := Scalar.indexCast arg14
  let c48 : Index := 48#32
  ![v59.toNat, 48]
def k0_off75 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_19 : BitVec 32 := 256#32
  let v16 : BitVec 32 := Scalar.addi v2 c256_i32_19
  let c0_i32_20 : BitVec 32 := 0#32
  ![v16.toNat, 0]
@[reducible] def k0_t5_loop : Scf.Loop 32 :=
  let c0_i32_23 : BitVec 32 := 0#32
  let c256_i32_24 : BitVec 32 := 256#32
  let v19 : BitVec 32 := Scalar.addi c0_i32_23 c256_i32_24
  let c1_i32_25 : BitVec 32 := 1#32
  ⟨c0_i32_23, v19, c1_i32_25⟩
@[reducible] def k0_t6_loop : Scf.Loop 32 :=
  let c0_i32_29 : BitVec 32 := 0#32
  let c256_i32_30 : BitVec 32 := 256#32
  let v23 : BitVec 32 := Scalar.addi c0_i32_29 c256_i32_30
  let c1_i32_31 : BitVec 32 := 1#32
  ⟨c0_i32_29, v23, c1_i32_31⟩
def k0_off76 (k0_t6 : Fin k0_t6_loop.trips) : Fin 2 → Nat :=
  let c0_i32_29 : BitVec 32 := 0#32
  let c1_i32_31 : BitVec 32 := 1#32
  let arg14 : BitVec 32 := Scf.iv c0_i32_29 c1_i32_31 k0_t6
  let v32 : Index := Scalar.indexCast arg14
  let c0_34 : Index := 0#32
  ![v32.toNat, 0]
def k0_off77 (k0_t6 : Fin k0_t6_loop.trips) : Fin 2 → Nat :=
  let c0_i32_29 : BitVec 32 := 0#32
  let c1_i32_31 : BitVec 32 := 1#32
  let arg14 : BitVec 32 := Scf.iv c0_i32_29 c1_i32_31 k0_t6
  let v41 : Index := Scalar.indexCast arg14
  let c16 : Index := 16#32
  ![v41.toNat, 16]
def k0_off78 (k0_t6 : Fin k0_t6_loop.trips) : Fin 2 → Nat :=
  let c0_i32_29 : BitVec 32 := 0#32
  let c1_i32_31 : BitVec 32 := 1#32
  let arg14 : BitVec 32 := Scf.iv c0_i32_29 c1_i32_31 k0_t6
  let v50 : Index := Scalar.indexCast arg14
  let c32 : Index := 32#32
  ![v50.toNat, 32]
def k0_off79 (k0_t6 : Fin k0_t6_loop.trips) : Fin 2 → Nat :=
  let c0_i32_29 : BitVec 32 := 0#32
  let c1_i32_31 : BitVec 32 := 1#32
  let arg14 : BitVec 32 := Scf.iv c0_i32_29 c1_i32_31 k0_t6
  let v59 : Index := Scalar.indexCast arg14
  let c48 : Index := 48#32
  ![v59.toNat, 48]
def k0_off80 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_33 : BitVec 32 := 16#32
  let v31 : BitVec 32 := Scalar.muli v1 c16_i32_33
  ![v31.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S16384 : Shape := ⟨1, ![16384]⟩
abbrev S100000x64 : Shape := ⟨2, ![100000, 64]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384, .i32⟩
  | .hbm, ⟨2, _⟩ => ⟨S100000x64, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x64, .f32⟩
  | .hbm, ⟨22, _⟩ => ⟨S16384x64, .i1⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩

abbrev nD : Nat := 1
abbrev τ : Topo := Topo.v7x

variable {F : FTy → Type} [FloatOps F]
-- ==== Proof.Labels.lean ====
/- What the precondition says of the labels: each, read as a natural number, is below the table's 100000 rows. -/
module

public import proofs.«01_k».proof.Defs
public import Idealize.ShloMosaic.Lib.ReduceAll
public import proofs.«01_k».proof.Proof.Gen.Pre_labels_in_range

@[expose] public section

noncomputable section

namespace Cert.Proof.Run

open Cert.Pre_labels_in_range Cert.Pre_labels_in_range.Gen
open Idealize.ShloMosaic

variable {F : FTy → Type} [FloatOps F]

/-- A word between 0 and 99999, read signed, is below 100000 read unsigned. -/
theorem word_lt {w : BitVec 32} (h0 : 0 ≤ w.toInt) (h1 : w.toInt < 100000) : w.toNat < 100000 := by
  have hc := BitVec.toInt_eq_toNat_cond w
  have hw := w.isLt
  split at hc <;> omega

/-- Where the precondition holds, every label is below the number of rows. -/
theorem labels_lt (feat : FVec F S16384x64 .f32) (labs : IVec S16384 32) (tab : FVec F S100000x64 .f32)
    (h : fn feat labs tab = fun _ => 1#1) (i : S16384.Idx) : (labs i).toNat < 100000 := by
  have e := congrFun h (fun a => a.elim0)
  dsimp only [fn] at e
  haveI : Subsingleton S_.Idx := ⟨fun _ _ => funext fun a => a.elim0⟩
  have e := Host.reduce_andi_all _ _ _ _ _ e i
  obtain ⟨e0, e1⟩ := IntOp.andi_eq_one.1 e
  have e0 := IntOp.cmpi_sge.1 e0
  have e1 := IntOp.cmpi_slt.1 e1
  exact word_lt e0 e1

end Cert.Proof.Run
-- ==== Proof.Rows.lean ====
/- The gathered rows of the kernel. Each tile copies 512 rows of the prototype table into its two scratch
   buffers, 256 a buffer, one copy a row, and only then waits. A buffer's 256 copies are one counted batch:
   this module says what each copy delivers and how one copy is issued, for either buffer and every row. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch
public import Idealize.ShloMosaic.Lib.Ring
public import proofs.«01_k».proof.Proof.Gen.KernelIdeal
public import proofs.«01_k».proof.Proof.Gen.KernelIdeal.Skeleton

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The launch's labels: the kernel's own, with no pipeline in them. -/
abbrev ΛP : Labels := Pipeline.Sig Λ₀ (Fin 0) fun p => (pcfgs (F := F) p).Adm
/-- The one SparseCore call. -/
abbrev K : SparseCore.Cfg τ sig (ΛP (F := F)) 1 := sc (F := F)
/-- What every label runs. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state of the call's rounds, -/
abbrev UH : Type := URounds (GSem nD τ sig) ℕ
/-- and beside it the counters the copies and their batches take. -/
abbrev UU : Type := UH × Counters

local notation "𝕄" => MT nD τ sig (HIx 1) (Elt F) ℕ UU ℕ

abbrev EH : Emb UH 𝕄 := embL
abbrev EC : UEmb Counters 𝕄 := countersEmb (U := UU)

/-- The prototype table, as a tile sees it. -/
abbrev tabM : Memref sig .scVector .hbm S100000x64 .f32 := Memref.whole main_arg2_scv

/-- Row `r` of a two-dimensional array of rows of 64 lies inside it. -/
theorem row_inb {n : ℕ} (r : Fin n) : ∀ a, (![r.val, 0] : Fin 2 → ℕ) a + S1x64.size a ≤ (⟨2, ![n, 64]⟩ : Shape).size a
  | 0 => by have := r.isLt; simpa using this
  | 1 => by simp

/-- A row of 64 of the table. -/
abbrev srcRow (r : Fin 100000) : Memref sig .scVector .hbm S64 .f32 :=
  (tabM.slice (Rect.unit (s := S100000x64) ![r.val, 0] S1x64.size (row_inb r)) (fun _ => rfl)).squeeze S64 squeezes_S1x64_S64

/-- A row of 64 of a scratch buffer `G`. -/
abbrev dstRow (G : Memref sig .scVector .vmem S256x64 .f32) (j : Fin 256) : Memref sig .scVector .vmem S64 .f32 :=
  (G.slice (Rect.unit (s := S256x64) ![j.val, 0] S1x64.size (row_inb j)) (fun _ => rfl)).squeeze S64 squeezes_S1x64_S64

/-- What one row's copy adds to its semaphore: the same for every row of a buffer. -/
def rowN (G : Memref sig .scVector .vmem S256x64 .f32) : ℕ := (dstRow G 0).view.dmaCredit

theorem amount_dstRow (G : Memref sig .scVector .vmem S256x64 .f32) (j : Fin 256) (sm : DmaSem sig) :
    (dstRow G j).view.amount (.dma sm) = rowN G := rfl

theorem rowN_pos (G : Memref sig .scVector .vmem S256x64 .f32) : 0 < rowN G := View.dmaCredit_pos _ (by decide)

section Row

variable (d : Dev nD) (c : Fin τ.nSC) (s : Fin τ.nSub) (G : Memref sig .scVector .vmem S256x64 .f32) (sm : DmaSem sig)
  (q : PosShare TreeShare) (lab : Fin 256 → Fin 100000)
  (tab : Buf (Elt F) ((tabM).view.loc (V d c s))) (gb fd : Buf (Elt F) (G.view.loc (V d c s)))

/-- The read share of the table that row `j`'s copy takes, on the row it reads. -/
abbrev rowTok (j : Fin 256) : sProp 𝕄 :=
  iprop((srcRow (lab j)).view.loc (V d c s) ↦[(srcRow (lab j)).view.set]{Transfers.shareTok q 256 j} tab)

/-- What row `j`'s copy delivers: row `j` of the scratch buffer, now `gb`'s, and the read share back. -/
abbrev rowD (j : Fin 256) : sProp 𝕄 :=
  iprop(((dstRow G j).view.loc (V d c s) ↦[(dstRow G j).view.set]{fullShare} gb) ∗ rowTok d c s q lab tab j)

/-- What row `j`'s copy starts from. -/
abbrev rowR (j : Fin 256) : sProp 𝕄 :=
  iprop(((dstRow G j).view.loc (V d c s) ↦[(dstRow G j).view.set]{fullShare} fd) ∗ rowTok d c s q lab tab j)

/-- The buffer's batch with `j` rows issued and `u` units consumed. -/
abbrev rowBatch (j u : ℕ) : sProp 𝕄 :=
  Transfers.Batch EC (V d c s) (.dma sm) (none : HIx 1) (rowN G) (rowD d c s G q lab tab gb) j u

/-- The state of the issuing loop with `j` rows issued: the batch, and what the rows not yet issued start from. -/
def issued (j : ℕ) : sProp 𝕄 :=
  iprop(rowBatch d c s G sm q lab tab gb j 0 ∗ bigSep (Transfers.pending j) (rowR d c s G q lab tab fd))

/-- A view whose reading of `f` is `w` is left at `f` by writing `w` over it. -/
theorem write_eq_of_read {κ : Kind} {sp : Space} {sh : Shape} {e : EltTy} (v : View sig κ sp sh e) (f g : v.ty.Contents (Elt F))
    (w : sh.Idx → Elt F e) (h : v.read (Elt F) g = w) : ∀ i ∈ v.set, v.write (Elt F) f w Finset.univ i = g i := by
  intro i hi
  obtain ⟨x, -, rfl⟩ := Finset.mem_map.mp hi
  rw [View.write_emb_of_mem _ _ (Finset.mem_univ x), ← h, View.read_apply, cast_cast, cast_eq]

/-- The next row to issue, apart from those after it. -/
theorem pending_split (Φ : Fin 256 → sProp 𝕄) (j : Fin 256) :
    bigSep (Transfers.pending j.val) Φ = iprop(Φ j ∗ bigSep (Transfers.pending (j.val + 1)) Φ) := by
  rw [Transfers.pending_succ j.isLt, bigSep_insert (Transfers.not_mem_pending_succ j.isLt)]
  rfl

/-- One row is issued: from `j` rows issued to `j + 1`. The offsets are the program's own spellings of
    row `j` of the buffer and row `lab j` of the table. -/
theorem row_step {α : Type} {bd : Option Variants.none.V} {Q : α → sProp 𝕄} (j : Fin 256)
    (hread : (dstRow G j).view.read (Elt F) gb = (srcRow (lab j)).view.read (Elt F) tab)
    {offS offD : Fin 2 → ℕ} {hS : ∀ a, offS a + S1x64.size a ≤ S100000x64.size a}
    {hD : ∀ a, offD a + S1x64.size a ≤ S256x64.size a} (eS : offS = ![(lab j).val, 0]) (eD : offD = ![j.val, 0])
    {hsrc hdst hsem} {k : PUnit → Prog (TpuEff nD τ sig (Elt F) Λ₀ (V d c s).2) α} :
    issued d c s G sm q lab tab gb fd j.val
      ⊢ iprop((issued d c s G sm q lab tab gb fd (j.val + 1) -∗ wp frame (wpE (defs₀ (F := F)) 𝒱₀ (V d c s) bd) Set.univ (k ⟨⟩) Q)
          -∗ wp frame (wpE (defs₀ (F := F)) 𝒱₀ (V d c s) bd) Set.univ
            (.op (TpuEff.enqueueDma ((tabM.slice (Rect.unit (s := S100000x64) offS S1x64.size hS) (fun _ => rfl)).squeeze S64 squeezes_S1x64_S64)
              (.here ((G.slice (Rect.unit (s := S256x64) offD S1x64.size hD) (fun _ => rfl)).squeeze S64 squeezes_S1x64_S64))
              (.dma sm) hsrc hdst hsem) k) Q) := by
  subst eS eD
  unfold issued
  rw [pending_split]
  iintro ⟨HB, ⟨Hd, Hs⟩, Hp⟩ Hk
  iapply (Transfers.wp_dmaBatch EC 𝒱₀ (V d c s) bd (src := srcRow (lab j)) (dst := dstRow G j)
    (q := Transfers.shareTok q 256 j) (fs := tab) (fd := fd) (D := rowD d c s G q lab tab gb) (j := j.val) (u := 0) (none : HIx 1) (rowN G) (amount_dstRow G j sm)
    (Finset.Subset.refl _) j.isLt (Nat.zero_le _) ?_) $$ [Hs Hd HB]
  · show iprop(((dstRow G j).view.loc (V d c s) ↦[(dstRow G j).view.set]{fullShare} _) ∗ _) ⊢ rowD d c s G q lab tab gb j
    rw [pointsTo_congr (write_eq_of_read (dstRow G j).view fd gb _ hread)]
  · isplitl [Hs]; · iexact Hs
    isplitl [Hd]; · iexact Hd
    iexact HB
  iintro HB
  iapply Hk
  isplitl [HB]; · iexact HB
  iexact Hp

/-- One wait of a batch whose rows are all issued: one row's units more are consumed. -/
theorem row_wait {α : Type} {bd : Option Variants.none.V} {Q : α → sProp 𝕄} {O W} (u : ℕ) (hu : u < 256)
    {srcw : Memref sig .scVector .hbm S64 .f32} {dstw : Memref sig .scVector .vmem S64 .f32} (hN : dstw.view.dmaCredit = rowN G)
    {hsrc hdst} {k : PUnit → Prog (TpuEff nD τ sig (Elt F) Λ₀ (V d c s).2) α} :
    iprop(rowBatch d c s G sm q lab tab gb 256 (rowN G * u) ∗ owes (V d c s) O W ∗ MayWait (V d c s) (.dma sm) (none : HIx 1) O)
      ⊢ iprop((iprop(rowBatch d c s G sm q lab tab gb 256 (rowN G * (u + 1)) ∗ owes (V d c s) O (insert (.dma sm, none) W))
            -∗ wp frame (wpE (defs₀ (F := F)) 𝒱₀ (V d c s) bd) Set.univ (k ⟨⟩) Q)
          -∗ wp frame (wpE (defs₀ (F := F)) 𝒱₀ (V d c s) bd) Set.univ
            (.op (.waitDma2 sm srcw dstw hsrc hdst) k) Q) := by
  have h := Transfers.wp_waitBatchMulO (Lvl := ℕ) (defs := defs₀ (F := F)) (srcw := srcw) (sem := sm) (k := k) (Q := Q) (hsrc := hsrc) (hdst := hdst) (O := O) (W := W)
    EC 𝒱₀ (V d c s) bd (D := rowD d c s G q lab tab gb) (N := rowN G) (j := 256) (u := rowN G * u) (dstw := dstw) (none : HIx 1) 1 (by rw [Nat.one_mul]; exact hN)
    (by rw [Nat.one_mul, ← Nat.mul_succ]; exact Nat.mul_le_mul_left _ hu)
  rw [Nat.one_mul, ← Nat.mul_succ] at h
  exact h

/-- An element of row `j` of a buffer: the image of an index whose row is `j`. -/
theorem mem_dstRow (j : Fin 256) (i) :
    i ∈ (dstRow G j).view.set ↔ ∃ x : S256x64.Idx, x 0 = j ∧ G.view.emb x = i := by
  rw [show (dstRow G j).view.set = (G.view.slice (Rect.unit (s := S256x64) ![j.val, 0] S1x64.size (row_inb j))).set from View.set_reshape _ _,
    View.set_slice, Finset.mem_map]
  refine exists_congr fun x => and_congr_left fun _ => ?_
  rw [Rect.mem_set_unit]
  constructor
  · intro h
    have h0 := h 0
    apply Fin.ext
    simp at h0
    omega
  · rintro rfl a
    match a with
    | 0 => simp
    | 1 => have := (x 1).isLt; simpa using this

/-- A buffer is its 256 rows. -/
theorem rows_eq (f : Buf (Elt F) (G.view.loc (V d c s))) :
    (G.view.loc (V d c s) ↦[G.view.set]{fullShare} f : sProp 𝕄)
      = bigSep Finset.univ fun j => (dstRow G j).view.loc (V d c s) ↦[(dstRow G j).view.set]{fullShare} f := by
  have hu : G.view.set = Finset.univ.biUnion fun j => (dstRow G j).view.set := by
    ext i
    rw [Finset.mem_biUnion]
    constructor
    · intro h
      obtain ⟨x, -, rfl⟩ := Finset.mem_map.mp h
      exact ⟨x 0, Finset.mem_univ _, (mem_dstRow G _ _).mpr ⟨x, rfl, rfl⟩⟩
    · rintro ⟨j, -, h⟩
      obtain ⟨x, -, rfl⟩ := (mem_dstRow G _ _).mp h
      exact Finset.mem_map_of_mem _ (Finset.mem_univ x)
  rw [hu]
  refine pointsTo_biUnion (ℓ := G.view.loc (V d c s)) Finset.univ (fun j => (dstRow G j).view.set) fun j _ j' _ hne => ?_
  refine Finset.disjoint_left.mpr fun i h h' => hne ?_
  obtain ⟨x, rfl, rfl⟩ := (mem_dstRow G _ _).mp h
  obtain ⟨y, rfl, e⟩ := (mem_dstRow G _ _).mp h'
  rw [G.view.emb.injective e]

/-- What is left of a read share of the table once every row's copy has its part: the share no copy takes, and
    each copy's share on the rows it does not read. -/
def tabRest : sProp 𝕄 :=
  iprop((tabM.view.loc (V d c s) ↦[Finset.univ]{Transfers.shareDrop q 256} tab)
    ∗ bigSep Finset.univ fun j => tabM.view.loc (V d c s) ↦[Finset.univ \ (srcRow (lab j)).view.set]{Transfers.shareTok q 256 j} tab)

/-- A read share of the table, dealt to the 256 copies of one buffer. -/
theorem tab_deal : (tabM.view.loc (V d c s) ↦[Finset.univ]{q} tab : sProp 𝕄)
    ⊣⊢ iprop(bigSep Finset.univ (rowTok d c s q lab tab) ∗ tabRest d c s q lab tab) := by
  have h1 : ∀ j : Fin 256, (tabM.view.loc (V d c s) ↦[Finset.univ]{Transfers.shareTok q 256 j} tab : sProp 𝕄)
      = iprop(rowTok d c s q lab tab j
        ∗ (tabM.view.loc (V d c s) ↦[Finset.univ \ (srcRow (lab j)).view.set]{Transfers.shareTok q 256 j} tab)) := fun j => by
    refine BI.equiv_iff.mp ?_
    have h := pointsTo_union (Ix := HIx 1) (Name := ℕ) (U := UU) (Lvl := ℕ) (ℓ := tabM.view.loc (V d c s)) (q := Transfers.shareTok q 256 j) (f := tab)
      (Finset.disjoint_sdiff (s := (srcRow (lab j)).view.set) (t := Finset.univ))
    rw [Finset.union_sdiff_of_subset (Finset.subset_univ _)] at h
    exact ⟨h.1, h.2⟩
  have h2 := Transfers.pointsTo_toks (Ix := HIx 1) (Name := ℕ) (U := UU) (Lvl := ℕ) (ℓ := tabM.view.loc (V d c s)) (S := Finset.univ) (f := tab) q 256
  simp only [h1, bigSep_sep'] at h2
  unfold tabRest
  refine ⟨h2.1.trans ?_, ?_⟩
  · iintro ⟨H1, H2, H3⟩
    isplitl [H2]; · iexact H2
    isplitl [H1]; · iexact H1
    iexact H3
  · iintro ⟨H2, H1, H3⟩
    iapply h2.2
    isplitl [H1]; · iexact H1
    isplitl [H2]; · iexact H2
    iexact H3

/-- A buffer's batch begins: its semaphore's counter at zero, the whole buffer, and the copies' shares. -/
theorem rows_start (hG : G.view.set = Finset.univ) :
    iprop(semVal (V d c s, .dma sm) 0 ∗ (G.view.loc (V d c s) ↦[Finset.univ]{fullShare} fd) ∗ bigSep Finset.univ (rowTok d c s q lab tab))
      ⊢ (iprop(|={Set.univ}=> issued d c s G sm q lab tab gb fd 0) : sProp 𝕄) := by
  rw [← hG, rows_eq]
  iintro ⟨Hc, Hd, Ht⟩
  imod (Transfers.batch_alloc' (Lvl := ℕ) EC (V d c s) (none : HIx 1) (rowN G) (rowD d c s G q lab tab gb) (sm := .dma sm) (E := Set.univ)) $$ Hc with HB
  imodintro
  unfold issued
  isplitl [HB]; · iexact HB
  rw [Transfers.pending_zero, bigSep_sep']
  isplitl [Hd]; · iexact Hd
  iexact Ht

/-- With all 256 rows issued nothing is left to issue. -/
theorem issued_all : issued d c s G sm q lab tab gb fd 256 ⊢ rowBatch d c s G sm q lab tab gb 256 (rowN G * 0) := by
  unfold issued
  iintro ⟨HB, -⟩
  iexact HB

/-- A buffer's batch ends: every unit consumed, the buffer holds its rows and the shares and the counter are back. -/
theorem rows_finish (hG : G.view.set = Finset.univ) :
    rowBatch d c s G sm q lab tab gb 256 (rowN G * 256)
      ⊢ (iprop(|={Set.univ}=> (semVal (V d c s, .dma sm) 0 ∗ (G.view.loc (V d c s) ↦[Finset.univ]{fullShare} gb)
          ∗ bigSep Finset.univ (rowTok d c s q lab tab))) : sProp 𝕄) := by
  have h : rowBatch d c s G sm q lab tab gb 256 (rowN G * 256)
      ⊢ (iprop(|={Set.univ}=> (bigSep Finset.univ (rowD d c s G q lab tab gb) ∗ semVal (V d c s, .dma sm) 0)) : sProp 𝕄) :=
    Transfers.batch_collect' (Lvl := ℕ) EC (V d c s) (hN := rowN_pos G)
  rw [bigSep_sep', ← rows_eq, hG] at h
  iintro HB
  imod h $$ HB with ⟨⟨Hg, Ht⟩, Hc⟩
  imodintro
  isplitl [Hc]; · iexact Hc
  isplitl [Hg]; · iexact Hg
  iexact Ht

end Row

end Cert.Proof.Run
-- ==== Proof.Issue.lean ====
/- The two issuing loops. Iteration `t` of either loads 16 labels and starts the copies of the 16 rows they name;
   after 16 iterations a buffer's 256 copies are all in flight. One lemma issues one row from its label, and both
   loops' bodies are sixteen uses of it. -/
module

public import proofs.«01_k».proof.Proof.Rows

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The arguments and scratch buffers a tile holds whole. -/
abbrev featM : Memref sig .scVector .hbm S16384x64 .f32 := Memref.whole main_arg0_scv
abbrev labM : Memref sig .scVector .hbm S16384 .i32 := Memref.whole main_arg1_scv
abbrev outM : Memref sig .scVector .hbm S512 .f32 := Memref.whole main_v0_scv
abbrev idxM : Memref sig .scVector .vmem S512 .i32 := Memref.whole cc0_scratch0
abbrev rowsA : Memref sig .scVector .vmem S256x64 .f32 := Memref.whole cc0_scratch1
abbrev rowsB : Memref sig .scVector .vmem S256x64 .f32 := Memref.whole cc0_scratch2
abbrev fbufM : Memref sig .scVector .vmem S256x64 .f32 := Memref.whole cc0_scratch3
abbrev accM : Memref sig .scVector .vmem S16 .f32 := Memref.whole cc0_scratch4

/-- The core and the subcore of a tile. -/
abbrev cV (L : grid0.Coords) : Fin τ.nSC := (L 0).castLE hcore0
abbrev jV (L : grid0.Coords) : Fin τ.nSub := (L 1).castLE hsub0

/-- The bodies of the two issuing loops, at a tile's own buffers. -/
abbrev issueA (L : grid0.Coords) := k0_t1_body (F := F) L featM (Memref.isWhole_whole _) labM (Memref.isWhole_whole _) tabM (Memref.isWhole_whole _)
  outM (Memref.isWhole_whole _) idxM (Memref.isWhole_whole _) rowsA (Memref.isWhole_whole _) rowsB (Memref.isWhole_whole _)
  fbufM (Memref.isWhole_whole _) accM (Memref.isWhole_whole _) cc0_scratch5 cc0_scratch6 cc0_scratch7 cc0_scoped0 cc0_scoped1
abbrev issueB (L : grid0.Coords) := k0_t2_body (F := F) L featM (Memref.isWhole_whole _) labM (Memref.isWhole_whole _) tabM (Memref.isWhole_whole _)
  outM (Memref.isWhole_whole _) idxM (Memref.isWhole_whole _) rowsA (Memref.isWhole_whole _) rowsB (Memref.isWhole_whole _)
  fbufM (Memref.isWhole_whole _) accM (Memref.isWhole_whole _) cc0_scratch5 cc0_scratch6 cc0_scratch7 cc0_scoped0 cc0_scoped1

/-- A row below 256, from its iteration and its place in it. -/
abbrev rowIx (t k : ℕ) (ht : t < 16) (hk : k < 16) : Fin 256 := ⟨16 * t + k, by omega⟩

/-- The buffer row iteration `t`'s copy `k` writes, as the program's words compute it. -/
theorem dst_off {t k : ℕ} (ht : t < 16) (hk : k < 16) :
    (![(Scalar.addi (Scalar.muli (Scf.iv 0#32 1#32 t) 16#32) (BitVec.ofNat 32 k)).toNat, 0] : Fin 2 → ℕ) = ![16 * t + k, 0] := by
  have h : ∀ (t k : Fin 16), (Scalar.addi (Scalar.muli (Scf.iv 0#32 1#32 t.val) 16#32) (BitVec.ofNat 32 k.val)).toNat = 16 * t.val + k.val := by
    decide +kernel
  rw [h ⟨t, ht⟩ ⟨k, hk⟩]

/-- The index of a one-dimensional and of a two-dimensional array, from its coordinates. -/
def at1 {n : ℕ} (i : Fin n) : (⟨1, ![n]⟩ : Shape).Idx := fun | 0 => i
def at2 {n m : ℕ} (i : Fin n) (j : Fin m) : (⟨2, ![n, m]⟩ : Shape).Idx := fun | 0 => i | 1 => j

theorem lane_slices {k : ℕ} (hk : k < 16) : S16.Slices ![k] S1 :=
  ⟨rfl, fun | 0 => by show k + 1 ≤ 16; omega⟩

/-- The program's way to take lane `k` of a vector of 16 is its lane `k`. -/
theorem extract_lane (x : Vec F S16 .i32) {k : ℕ} (hk : k < 16) :
    extractAt ![0] (extractStridedSlice S1 ![k] (shapeCast S16 x shapeCasts_S16_S16) (lane_slices hk)) inpos_S1_p0 = x (at1 ⟨k, hk⟩) := by
  unfold extractAt extractStridedSlice shapeCast
  rw [Shape.reshapeEquiv_self]
  congr 1
  funext a
  match a with
  | 0 => rfl

section Row

variable (d : Dev nD) (c : Fin τ.nSC) (s : Fin τ.nSub) (G : Memref sig .scVector .vmem S256x64 .f32) (sm : DmaSem sig)
  (q : PosShare TreeShare) (lab : Fin 256 → Fin 100000)
  (tab : Buf (Elt F) ((tabM).view.loc (V d c s))) (gb fd : Buf (Elt F) (G.view.loc (V d c s)))

/-- The row slice of the table, and of a buffer, at any offsets that fit. -/
abbrev srcAt (off : Fin 2 → ℕ) (h : ∀ a, off a + S1x64.size a ≤ S100000x64.size a) : Memref sig .scVector .hbm S64 .f32 :=
  (tabM.slice (Rect.unit (s := S100000x64) off S1x64.size h) (fun _ => rfl)).squeeze S64 squeezes_S1x64_S64
abbrev dstAt (off : Fin 2 → ℕ) (h : ∀ a, off a + S1x64.size a ≤ S256x64.size a) : Memref sig .scVector .vmem S64 .f32 :=
  (G.slice (Rect.unit (s := S256x64) off S1x64.size h) (fun _ => rfl)).squeeze S64 squeezes_S1x64_S64
/-- The check the program makes of a label before it copies the row it names. -/
abbrev RowOk (w : BitVec 32) : Prop := ∀ a, (![w.toNat, 0] : Fin 2 → ℕ) a + S1x64.size a ≤ S100000x64.size a

/-- One row is issued from its label `w`: the check that the label names a row of the table, then the copy. -/
theorem issue_step {α : Type} {bd : Option Variants.none.V} {Q : α → sProp 𝕄}
    (hread : ∀ j, (dstRow G j).view.read (Elt F) gb = (srcRow (lab j)).view.read (Elt F) tab)
    {t k : ℕ} (ht : t < 16) (hk : k < 16)
    {w : BitVec 32} (hw : w.toNat = (lab (rowIx t k ht hk)).val) {offD : Fin 2 → ℕ} (eD : offD = ![16 * t + k, 0])
    {dec : Decidable (RowOk w)} {hD : ∀ a, offD a + S1x64.size a ≤ S256x64.size a}
    {hsrc : ∀ r : PLift (RowOk w), (srcAt ![w.toNat, 0] r.down).view.WordExact} {hdst : (dstAt G offD hD).view.WordExact}
    {hsem : DmaTarget.Typed (nD := nD) (p := (V d c s).2) .hbm (.dma sm) (.here (dstAt G offD hD))}
    {kont : PLift (RowOk w) → PUnit → Prog (TpuEff nD τ sig (Elt F) Λ₀ (V d c s).2) α} :
    issued d c s G sm q lab tab gb fd (16 * t + k)
      ⊢ iprop((∀ r, issued d c s G sm q lab tab gb fd (16 * t + (k + 1)) -∗ wp frame (wpE (defs₀ (F := F)) 𝒱₀ (V d c s) bd) Set.univ (kont r ⟨⟩) Q)
          -∗ wp frame (wpE (defs₀ (F := F)) 𝒱₀ (V d c s) bd) Set.univ
            (.op (.assume (RowOk w) dec) fun r =>
              .op (TpuEff.enqueueDma (srcAt ![w.toNat, 0] r.down) (.here (dstAt G offD hD)) (.dma sm) (hsrc r) hdst hsem) (kont r)) Q) := by
  have hchk : RowOk w := by
    unfold RowOk
    rw [hw]; exact row_inb _
  rw [wp_assume_of _ _ _ _ hchk]
  iintro HI Hk
  iapply (row_step d c s G sm q lab tab gb fd (rowIx t k ht hk) (hread _) (by rw [hw]) eD) $$ HI
  iintro HI
  iapply Hk $$ HI

end Row

section Loops

variable (d : Dev nD) (L : grid0.Coords) (q : PosShare TreeShare) (lab : Fin 256 → Fin 100000)
  (tab : Buf (Elt F) ((tabM).view.loc (V d (cV L) (jV L)))) (lb : Buf (Elt F) (idxM.view.loc (V d (cV L) (jV L))))

/-- A label loaded 16 at a time from place `o` of the label buffer, and taken out of its vector. -/
theorem label_at {o : ℕ} (off : Fin 1 → ℕ) (inb : ∀ a, off a + S16.size a ≤ S512.size a) (e : off = ![o]) {k : ℕ} (hk : k < 16) {i : Fin 512} (hi : i.val = o + k) :
    extractAt ![0] (extractStridedSlice S1 ![k] (shapeCast S16 (idxM.view.readAt (Elt F) (Rect.unit (s := S512) off S16.size inb).toLoadRect lb) shapeCasts_S16_S16) (lane_slices hk)) inpos_S1_p0
      = idxM.view.read (Elt F) lb (at1 i) := by
  subst e
  rw [extract_lane (F := F) _ hk, View.readAt_apply]
  congr 1
  funext a
  match a with
  | 0 => apply Fin.ext; simp [LoadRect.idx_apply, at1, hi]

set_option maxHeartbeats 4000000 in
/-- One iteration of the first issuing loop: 16 rows more are in flight. -/
theorem issueA_step (gb fd : Buf (Elt F) (rowsA.view.loc (V d (cV L) (jV L))))
    (hread : ∀ j, (dstRow rowsA j).view.read (Elt F) gb = (srcRow (lab j)).view.read (Elt F) tab)
    (hlab : ∀ j : Fin 256, (idxM.view.read (Elt F) lb (at1 ⟨j.val, by omega⟩)).toNat = (lab j).val) (t : Fin k0_t1_loop.trips) (x : BitVec 32) :
    iprop((idxM.view.loc (V d (cV L) (jV L)) ↦[Finset.univ]{fullShare} lb)
        ∗ issued d (cV L) (jV L) rowsA cc0_scratch5.sem q lab tab gb fd (16 * t.val + 0))
      ⊢ wp frame (wpE (defs₀ (F := F)) 𝒱₀ (V d (cV L) (jV L)) none) Set.univ (issueA L t x) fun _ =>
        iprop((idxM.view.loc (V d (cV L) (jV L)) ↦[Finset.univ]{fullShare} lb)
          ∗ issued d (cV L) (jV L) rowsA cc0_scratch5.sem q lab tab gb fd (16 * (t.val + 1))) := by
  have ht : t.val < 16 := lt_of_lt_of_le t.isLt k0_t1_abs.2.1
  unfold issueA k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret]
  iintro ⟨Hl, HI⟩
  iapply (wp_load 𝒱₀ (V d (cV L) (jV L)) none Set.univ (m := idxM) (S := Finset.univ) (Finset.subset_univ _)) $$ Hl
  iintro Hl
  iterate 16
    iapply (issue_step d (cV L) (jV L) rowsA cc0_scratch5.sem q lab tab gb fd hread ht (by decide)
      ((congrArg BitVec.toNat (label_at d L lb _ _ (k0_off3_eq t) (by decide) (i := ⟨(rowIx t.val _ ht (by decide)).val, by omega⟩) rfl)).trans (hlab (rowIx t.val _ ht (by decide)))) (dst_off ht (by decide))) $$ HI
    iintro %r HI
  rw [wp_ret]
  imodintro
  isplitl [Hl]; · iexact Hl
  iexact HI

set_option maxHeartbeats 4000000 in
/-- One iteration of the second issuing loop: 16 rows more are in flight. -/
theorem issueB_step (gb fd : Buf (Elt F) (rowsB.view.loc (V d (cV L) (jV L))))
    (hread : ∀ j, (dstRow rowsB j).view.read (Elt F) gb = (srcRow (lab j)).view.read (Elt F) tab)
    (hlab : ∀ j : Fin 256, (idxM.view.read (Elt F) lb (at1 ⟨j.val + 256, by omega⟩)).toNat = (lab j).val) (t : Fin k0_t2_loop.trips) (x : BitVec 32) :
    iprop((idxM.view.loc (V d (cV L) (jV L)) ↦[Finset.univ]{fullShare} lb)
        ∗ issued d (cV L) (jV L) rowsB cc0_scratch6.sem q lab tab gb fd (16 * t.val + 0))
      ⊢ wp frame (wpE (defs₀ (F := F)) 𝒱₀ (V d (cV L) (jV L)) none) Set.univ (issueB L t x) fun _ =>
        iprop((idxM.view.loc (V d (cV L) (jV L)) ↦[Finset.univ]{fullShare} lb)
          ∗ issued d (cV L) (jV L) rowsB cc0_scratch6.sem q lab tab gb fd (16 * (t.val + 1))) := by
  have ht : t.val < 16 := lt_of_lt_of_le t.isLt k0_t2_abs.2.1
  unfold issueB k0_t2_body
  simp only [k0_part6_eq_skeleton, k0_part7_eq_skeleton, k0_part8_eq_skeleton, k0_part9_eq_skeleton, k0_part10_eq_skeleton]
  unfold k0_part6_skel k0_part7_skel k0_part8_skel k0_part9_skel k0_part10_skel
  simp only [Prog.lift, Prog.bind_op, Prog.bind_ret, Prog.pure_eq_ret]
  iintro ⟨Hl, HI⟩
  iapply (wp_load 𝒱₀ (V d (cV L) (jV L)) none Set.univ (m := idxM) (S := Finset.univ) (Finset.subset_univ _)) $$ Hl
  iintro Hl
  iterate 16
    iapply (issue_step d (cV L) (jV L) rowsB cc0_scratch6.sem q lab tab gb fd hread ht (by decide)
      ((congrArg BitVec.toNat (label_at d L lb _ _ (k0_off37_eq t) (by decide) (i := ⟨(rowIx t.val _ ht (by decide)).val + 256, by omega⟩) (Nat.add_right_comm _ _ _))).trans (hlab (rowIx t.val _ ht (by decide)))) (dst_off ht (by decide))) $$ HI
    iintro %r HI
  rw [wp_ret]
  imodintro
  isplitl [Hl]; · iexact Hl
  iexact HI

end Loops

end Cert.Proof.Run
-- ==== Proof.Sums.lean ====
/- What a tile computes: its four running sums of squared differences, as functions of the rows it holds; and the
   steps of the loops that wait for the rows and that add them up. -/
module

public import proofs.«01_k».proof.Proof.Issue

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A column below 64, from its block of 16 and its lane. -/
abbrev colIx (o : Fin 4) (l : Fin 16) : Fin 64 := ⟨16 * o.val + l.val, by omega⟩

/-- Lanes `16 o … 16 o + 15` of row `r`. -/
def chunk (f : S256x64.Idx → F .f32) (r : Fin 256) (o : Fin 4) : FVec F S16 .f32 := fun l => f (at2 r (colIx o (l 0)))

/-- One row's block added into a running sum. -/
def sqStep (acc : FVec F S16 .f32) (f g : S256x64.Idx → F .f32) (r : Fin 256) (o : Fin 4) : FVec F S16 .f32 :=
  addf acc (mulf (subf (chunk f r o) (chunk g r o)) (subf (chunk f r o) (chunk g r o)))

/-- The running sum of block `o` after the first `n` rows. -/
def sqSum (f g : S256x64.Idx → F .f32) (o : Fin 4) (acc : FVec F S16 .f32) : ℕ → FVec F S16 .f32
  | 0 => acc
  | n + 1 => if h : n < 256 then sqStep (sqSum f g o acc n) f g ⟨n, h⟩ o else sqSum f g o acc n

theorem sqSum_succ (f g : S256x64.Idx → F .f32) (o : Fin 4) (acc : FVec F S16 .f32) {n : ℕ} (h : n < 256) :
    sqSum f g o acc (n + 1) = sqStep (sqSum f g o acc n) f g ⟨n, h⟩ o := dif_pos h

/-- A block of a row of a scratch buffer, as the program loads and reshapes it. -/
theorem load_chunk (G : Memref sig .scVector .vmem S256x64 .f32) (gb : G.view.ty.Contents (Elt F)) {off : Fin 2 → ℕ}
    (inb : ∀ a, off a + S1x16.size a ≤ S256x64.size a) (r : Fin 256) (o : Fin 4) (e : off = ![r.val, 16 * o.val]) :
    shapeCast S16 (G.view.readAt (Elt F) (Rect.unit (s := S256x64) off S1x16.size inb).toLoadRect gb) shapeCasts_S1x16_S16
      = chunk (G.view.read (Elt F) gb) r o := by
  subst e
  funext l
  unfold chunk shapeCast
  have h : Shape.reshapeEquiv shapeCasts_S1x16_S16 l = (at2 0 (l 0) : S1x16.Idx) := by
    have := Shape.reshapeEquiv_cons_one (d := ![16]) shapeCasts_S1x16_S16 l
    rw [this]
    funext a
    match a with
    | 0 => rfl
    | 1 => rfl
  rw [h, View.readAt_apply]
  congr 1
  funext a
  match a with
  | 0 => apply Fin.ext; simp [LoadRect.idx_apply, at2]
  | 1 => apply Fin.ext; simp [LoadRect.idx_apply, at2]

section Loops

variable (d : Dev nD) (L : grid0.Coords) (q : PosShare TreeShare) (lab : Fin 256 → Fin 100000)
  (tab : Buf (Elt F) ((tabM).view.loc (V d (cV L) (jV L))))

/-- The bodies of the waiting loops and of the adding loops, at a tile's own buffers. -/
abbrev waitA (L : grid0.Coords) := k0_t3_body (F := F) L featM (Memref.isWhole_whole _) labM (Memref.isWhole_whole _) tabM (Memref.isWhole_whole _)
  outM (Memref.isWhole_whole _) idxM (Memref.isWhole_whole _) rowsA (Memref.isWhole_whole _) rowsB (Memref.isWhole_whole _)
  fbufM (Memref.isWhole_whole _) accM (Memref.isWhole_whole _) cc0_scratch5 cc0_scratch6 cc0_scratch7 cc0_scoped0 cc0_scoped1
abbrev waitB (L : grid0.Coords) := k0_t5_body (F := F) L featM (Memref.isWhole_whole _) labM (Memref.isWhole_whole _) tabM (Memref.isWhole_whole _)
  outM (Memref.isWhole_whole _) idxM (Memref.isWhole_whole _) rowsA (Memref.isWhole_whole _) rowsB (Memref.isWhole_whole _)
  fbufM (Memref.isWhole_whole _) accM (Memref.isWhole_whole _) cc0_scratch5 cc0_scratch6 cc0_scratch7 cc0_scoped0 cc0_scoped1
abbrev addA (L : grid0.Coords) := k0_t4_body (F := F) L featM (Memref.isWhole_whole _) labM (Memref.isWhole_whole _) tabM (Memref.isWhole_whole _)
  outM (Memref.isWhole_whole _) idxM (Memref.isWhole_whole _) rowsA (Memref.isWhole_whole _) rowsB (Memref.isWhole_whole _)
  fbufM (Memref.isWhole_whole _) accM (Memref.isWhole_whole _) cc0_scratch5 cc0_scratch6 cc0_scratch7 cc0_scoped0 cc0_scoped1
abbrev addB (L : grid0.Coords) := k0_t6_body (F := F) L featM (Memref.isWhole_whole _) labM (Memref.isWhole_whole _) tabM (Memref.isWhole_whole _)
  outM (Memref.isWhole_whole _) idxM (Memref.isWhole_whole _) rowsA (Memref.isWhole_whole _) rowsB (Memref.isWhole_whole _)
  fbufM (Memref.isWhole_whole _) accM (Memref.isWhole_whole _) cc0_scratch5 cc0_scratch6 cc0_scratch7 cc0_scoped0 cc0_scoped1

/-- The state of a waiting loop with `k` of the 256 waits done: the units those took, and what the thread owes, its
    waits being only those it had made before and its own copies'. -/
def waited (G : Memref sig .scVector .vmem S256x64 .f32) (sm : DmaSem sig) (gb : Buf (Elt F) (G.view.loc (V d (cV L) (jV L))))
    (O : CellTallies nD τ sig (HIx 1)) (W : Waits sig (HIx 1)) (k : ℕ) : sProp 𝕄 :=
  iprop(Transfers.MayWaits (V d (cV L) (jV L)) (none : HIx 1) O ∗ rowBatch d (cV L) (jV L) G sm q lab tab gb 256 (rowN G * k)
    ∗ ∃ W', ⌜∀ p ∈ W', p ∈ W ∨ p.2 = none⌝ ∗ owes (V d (cV L) (jV L)) O W')

/-- One wait of a waiting loop. -/
theorem waited_step {α : Type} {Q : α → sProp 𝕄} (G : Memref sig .scVector .vmem S256x64 .f32) (sm : DmaSem sig)
    (gb : Buf (Elt F) (G.view.loc (V d (cV L) (jV L)))) (O : CellTallies nD τ sig (HIx 1)) (W : Waits sig (HIx 1)) {k : ℕ} (hk : k < 256)
    {srcw : Memref sig .scVector .hbm S64 .f32} {dstw : Memref sig .scVector .vmem S64 .f32} (hN : dstw.view.dmaCredit = rowN G)
    {hsrc hdst} {kont : PUnit → Prog (TpuEff nD τ sig (Elt F) Λ₀ (V d (cV L) (jV L)).2) α} :
    waited d L q lab tab G sm gb O W k
      ⊢ iprop((waited d L q lab tab G sm gb O W (k + 1)
            -∗ wp frame (wpE (defs₀ (F := F)) 𝒱₀ (V d (cV L) (jV L)) none) Set.univ (kont ⟨⟩) Q)
          -∗ wp frame (wpE (defs₀ (F := F)) 𝒱₀ (V d (cV L) (jV L)) none) Set.univ (.op (.waitDma2 sm srcw dstw hsrc hdst) kont) Q) := by
  unfold waited
  iintro ⟨#Hmw, HB, %W', %hW, HO⟩ Hk
  iapply (row_wait d (cV L) (jV L) G sm q lab tab gb k hk hN) $$ [HB HO]
  · isplitl [HB]; · iexact HB
    isplitl [HO]; · iexact HO
    iapply (Transfers.MayWaits.elim (.dma sm)) $$ Hmw
  iintro ⟨HB, HO⟩
  iapply Hk
  isplitr; · iexact Hmw
  isplitl [HB]; · iexact HB
  iexists (insert (.dma sm, none) W')
  isplitr
  · ipureintro
    exact fun p hp => (Finset.mem_insert.mp hp).elim (fun e => .inr (congrArg Prod.snd e)) (hW p)
  iexact HO

theorem waitA_step (gb : Buf (Elt F) (rowsA.view.loc (V d (cV L) (jV L)))) (O : CellTallies nD τ sig (HIx 1)) (W : Waits sig (HIx 1))
    (t : Fin k0_t3_loop.trips) (x : BitVec 32) :
    waited d L q lab tab rowsA cc0_scratch5.sem gb O W t.val
      ⊢ wp frame (wpE (defs₀ (F := F)) 𝒱₀ (V d (cV L) (jV L)) none) Set.univ (waitA L t x) fun _ =>
        waited d L q lab tab rowsA cc0_scratch5.sem gb O W (t.val + 1) := by
  unfold waitA k0_t3_body
  simp only [Prog.lift, Prog.bind_op, Prog.bind_ret, Prog.pure_eq_ret]
  iintro H
  iapply (waited_step d L q lab tab rowsA cc0_scratch5.sem gb O W (lt_of_lt_of_le t.isLt k0_t3_abs.2.1) rfl) $$ H
  iintro H
  rw [wp_ret]
  imodintro
  iexact H

theorem waitB_step (gb : Buf (Elt F) (rowsB.view.loc (V d (cV L) (jV L)))) (O : CellTallies nD τ sig (HIx 1)) (W : Waits sig (HIx 1))
    (t : Fin k0_t5_loop.trips) (x : BitVec 32) :
    waited d L q lab tab rowsB cc0_scratch6.sem gb O W t.val
      ⊢ wp frame (wpE (defs₀ (F := F)) 𝒱₀ (V d (cV L) (jV L)) none) Set.univ (waitB L t x) fun _ =>
        waited d L q lab tab rowsB cc0_scratch6.sem gb O W (t.val + 1) := by
  unfold waitB k0_t5_body
  simp only [Prog.lift, Prog.bind_op, Prog.bind_ret, Prog.pure_eq_ret]
  iintro H
  iapply (waited_step d L q lab tab rowsB cc0_scratch6.sem gb O W (lt_of_lt_of_le t.isLt k0_t5_abs.2.1) rfl) $$ H
  iintro H
  rw [wp_ret]
  imodintro
  iexact H

/-- The four running sums after `n` rows. -/
def sums (f g : S256x64.Idx → F .f32) (a : Fin 4 → FVec F S16 .f32) (n : ℕ) : FVec F S16 .f32 × FVec F S16 .f32 × FVec F S16 .f32 × FVec F S16 .f32 :=
  (sqSum f g 0 (a 0) n, sqSum f g 1 (a 1) n, sqSum f g 2 (a 2) n, sqSum f g 3 (a 3) n)

/-- The state of an adding loop after `n` rows: the features and the gathered rows, and the running sums. -/
def added (G : Memref sig .scVector .vmem S256x64 .f32) (fb : Buf (Elt F) (fbufM.view.loc (V d (cV L) (jV L))))
    (gb : Buf (Elt F) (G.view.loc (V d (cV L) (jV L)))) (a : Fin 4 → FVec F S16 .f32) (n : ℕ)
    (p : FVec F S16 .f32 × FVec F S16 .f32 × FVec F S16 .f32 × FVec F S16 .f32) : sProp 𝕄 :=
  iprop((fbufM.view.loc (V d (cV L) (jV L)) ↦[Finset.univ]{fullShare} fb) ∗ (G.view.loc (V d (cV L) (jV L)) ↦[Finset.univ]{fullShare} gb)
    ∗ ⌜p = sums (fbufM.view.read (Elt F) fb) (G.view.read (Elt F) gb) a n⌝)

theorem addA_step (fb : Buf (Elt F) (fbufM.view.loc (V d (cV L) (jV L)))) (gb : Buf (Elt F) (rowsA.view.loc (V d (cV L) (jV L))))
    (a : Fin 4 → FVec F S16 .f32) (t : Fin k0_t4_loop.trips) (p : FVec F S16 .f32 × FVec F S16 .f32 × FVec F S16 .f32 × FVec F S16 .f32) :
    added d L rowsA fb gb a t.val p
      ⊢ wp frame (wpE (defs₀ (F := F)) 𝒱₀ (V d (cV L) (jV L)) none) Set.univ (addA L t p) (added d L rowsA fb gb a (t.val + 1)) := by
  have ht : t.val < 256 := lt_of_lt_of_le t.isLt k0_t4_abs.2.1
  unfold added addA k0_t4_body
  simp only [Prog.lift, Prog.bind_op, Prog.bind_ret, Prog.pure_eq_ret]
  iintro ⟨Hf, Hg, %hp⟩
  subst hp
  iterate 4
    iapply (wp_load 𝒱₀ (V d (cV L) (jV L)) none Set.univ (m := fbufM) (S := Finset.univ) (Finset.subset_univ _)) $$ Hf
    iintro Hf
    iapply (wp_load 𝒱₀ (V d (cV L) (jV L)) none Set.univ (m := rowsA) (S := Finset.univ) (Finset.subset_univ _)) $$ Hg
    iintro Hg
  rw [wp_ret]
  imodintro
  isplitl [Hf]; · iexact Hf
  isplitl [Hg]; · iexact Hg
  ipureintro
  unfold sums
  simp only [sqSum_succ _ _ _ _ ht]
  unfold sqStep k0_pay41 k0_pay42 k0_pay43 k0_pay44
  rw [← load_chunk fbufM fb (k0_off71_inb t) ⟨t.val, ht⟩ 0 (k0_off71_eq t), ← load_chunk rowsA gb (k0_off71_inb t) ⟨t.val, ht⟩ 0 (k0_off71_eq t),
    ← load_chunk fbufM fb (k0_off72_inb t) ⟨t.val, ht⟩ 1 (k0_off72_eq t), ← load_chunk rowsA gb (k0_off72_inb t) ⟨t.val, ht⟩ 1 (k0_off72_eq t),
    ← load_chunk fbufM fb (k0_off73_inb t) ⟨t.val, ht⟩ 2 (k0_off73_eq t), ← load_chunk rowsA gb (k0_off73_inb t) ⟨t.val, ht⟩ 2 (k0_off73_eq t),
    ← load_chunk fbufM fb (k0_off74_inb t) ⟨t.val, ht⟩ 3 (k0_off74_eq t), ← load_chunk rowsA gb (k0_off74_inb t) ⟨t.val, ht⟩ 3 (k0_off74_eq t)]

theorem addB_step (fb : Buf (Elt F) (fbufM.view.loc (V d (cV L) (jV L)))) (gb : Buf (Elt F) (rowsB.view.loc (V d (cV L) (jV L))))
    (a : Fin 4 → FVec F S16 .f32) (t : Fin k0_t6_loop.trips) (p : FVec F S16 .f32 × FVec F S16 .f32 × FVec F S16 .f32 × FVec F S16 .f32) :
    added d L rowsB fb gb a t.val p
      ⊢ wp frame (wpE (defs₀ (F := F)) 𝒱₀ (V d (cV L) (jV L)) none) Set.univ (addB L t p) (added d L rowsB fb gb a (t.val + 1)) := by
  have ht : t.val < 256 := lt_of_lt_of_le t.isLt k0_t6_abs.2.1
  unfold added addB k0_t6_body
  simp only [Prog.lift, Prog.bind_op, Prog.bind_ret, Prog.pure_eq_ret]
  iintro ⟨Hf, Hg, %hp⟩
  subst hp
  iterate 4
    iapply (wp_load 𝒱₀ (V d (cV L) (jV L)) none Set.univ (m := fbufM) (S := Finset.univ) (Finset.subset_univ _)) $$ Hf
    iintro Hf
    iapply (wp_load 𝒱₀ (V d (cV L) (jV L)) none Set.univ (m := rowsB) (S := Finset.univ) (Finset.subset_univ _)) $$ Hg
    iintro Hg
  rw [wp_ret]
  imodintro
  isplitl [Hf]; · iexact Hf
  isplitl [Hg]; · iexact Hg
  ipureintro
  unfold sums
  simp only [sqSum_succ _ _ _ _ ht]
  unfold sqStep k0_pay1 k0_pay2 k0_pay3 k0_pay4
  rw [← load_chunk fbufM fb (k0_off76_inb t) ⟨t.val, ht⟩ 0 (k0_off76_eq t), ← load_chunk rowsB gb (k0_off76_inb t) ⟨t.val, ht⟩ 0 (k0_off76_eq t),
    ← load_chunk fbufM fb (k0_off77_inb t) ⟨t.val, ht⟩ 1 (k0_off77_eq t), ← load_chunk rowsB gb (k0_off77_inb t) ⟨t.val, ht⟩ 1 (k0_off77_eq t),
    ← load_chunk fbufM fb (k0_off78_inb t) ⟨t.val, ht⟩ 2 (k0_off78_eq t), ← load_chunk rowsB gb (k0_off78_inb t) ⟨t.val, ht⟩ 2 (k0_off78_eq t),
    ← load_chunk fbufM fb (k0_off79_inb t) ⟨t.val, ht⟩ 3 (k0_off79_eq t), ← load_chunk rowsB gb (k0_off79_inb t) ⟨t.val, ht⟩ 3 (k0_off79_eq t)]

end Loops

end Cert.Proof.Run
-- ==== Proof.Tile.lean ====
/- One tile's task, whole: it fetches its 512 labels and its features a half at a time, starts the copies of all 512
   rows of the table, waits for them a half at a time, adds up the squared differences, and writes its 16 partial sums
   out. -/
module

public import proofs.«01_k».proof.Proof.Sums

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The slices of the arguments and of the result a tile copies, as the program takes them. -/
abbrev labS (L : grid0.Coords) : Memref sig .scVector .hbm S512 .i32 := labM.slice (Rect.unit (s := S16384) (k0_off1 L) S512.size (k0_off1_inb L)) (fun _ => rfl)
abbrev featSA (L : grid0.Coords) : Memref sig .scVector .hbm S256x64 .f32 := featM.slice (Rect.unit (s := S16384x64) (k0_off2 L) S256x64.size (k0_off2_inb L)) (fun _ => rfl)
abbrev featSB (L : grid0.Coords) : Memref sig .scVector .hbm S256x64 .f32 := featM.slice (Rect.unit (s := S16384x64) (k0_off75 L) S256x64.size (k0_off75_inb L)) (fun _ => rfl)
abbrev outS (L : grid0.Coords) : Memref sig .scVector .hbm S16 .f32 := outM.slice (Rect.unit (s := S512) (k0_off80 L) S16.size (k0_off80_inb L)) (fun _ => rfl)

section Values

variable (L : grid0.Coords) (feat : S16384x64.Idx → Elt F .f32) (labs : S16384.Idx → Elt F .i32) (tab : S100000x64.Idx → Elt F .f32)

/-- A tile's labels, and its features' two halves. -/
def labT : S512.Idx → Elt F .i32 := (labS L).view.read (Elt F) labs
def featA : S256x64.Idx → F .f32 := (featSA L).view.read (Elt F) feat
def featB : S256x64.Idx → F .f32 := (featSB L).view.read (Elt F) feat

/-- The row of the table that place `j` of a half asks for: its label, brought below the number of rows. A label in
    range is its own row. -/
def rowOf (w : BitVec 32) : Fin 100000 := ⟨w.toNat % 100000, Nat.mod_lt _ (by decide)⟩
theorem rowOf_val {w : BitVec 32} (h : w.toNat < 100000) : w.toNat = (rowOf w).val := (Nat.mod_eq_of_lt h).symm

def labA (j : Fin 256) : Fin 100000 := rowOf (labT (F := F) L labs (at1 ⟨j.val, by omega⟩))
def labB (j : Fin 256) : Fin 100000 := rowOf (labT (F := F) L labs (at1 ⟨j.val + 256, by omega⟩))

/-- The rows a half's labels name. -/
def gath (lab : Fin 256 → Fin 100000) : S256x64.Idx → F .f32 := fun x => tab (at2 (lab (x 0)) (x 1))

/-- The running sums after the first half, and after both. -/
def sumA (o : Fin 4) : FVec F S16 .f32 := sqSum (featA L feat) (gath tab (labA (F := F) L labs)) o k0_pay40 256
def sumB (o : Fin 4) : FVec F S16 .f32 := sqSum (featB L feat) (gath tab (labB (F := F) L labs)) o (sumA L feat labs tab o) 256

/-- A tile's 16 partial sums. -/
def tileVec : FVec F S16 .f32 := k0_pay5 (sumB L feat labs tab 0) (sumB L feat labs tab 1) (sumB L feat labs tab 2) (sumB L feat labs tab 3)

end Values

/-- A row slice places column `y` of its row. -/
theorem row_place {n : ℕ} (r : Fin n) (y : S64.Idx) (h : S64.numel = (⟨2, ![1, 64]⟩ : Shape).numel) :
    (Rect.unit (s := ⟨2, ![n, 64]⟩) ![r.val, 0] S1x64.size (row_inb r)).emb (Shape.reshapeEquiv h y) = at2 r (y 0) := by
  rw [Shape.reshapeEquiv_cons_one (d := ![64]) h y]
  funext a
  match a with
  | 0 => apply Fin.ext; simp [at2]; rfl
  | 1 => apply Fin.ext; simp [at2]; rfl

/-- Row `j` of the gathered rows is the row of the table it asks for. -/
theorem gathA_read (tab : S100000x64.Idx → Elt F .f32) (lab : Fin 256 → Fin 100000) (j : Fin 256) :
    (dstRow rowsA j).view.read (Elt F) (gath tab lab) = (srcRow (lab j)).view.read (Elt F) tab := by
  funext y
  have e1 : (dstRow rowsA j).view.emb y = at2 j (y 0) := row_place j y _
  have e2 : (srcRow (lab j)).view.emb y = at2 (lab j) (y 0) := row_place (lab j) y _
  rw [View.read_apply, View.read_apply, e1, e2]
  rfl
theorem gathB_read (tab : S100000x64.Idx → Elt F .f32) (lab : Fin 256 → Fin 100000) (j : Fin 256) :
    (dstRow rowsB j).view.read (Elt F) (gath tab lab) = (srcRow (lab j)).view.read (Elt F) tab := by
  funext y
  have e1 : (dstRow rowsB j).view.emb y = at2 j (y 0) := row_place j y _
  have e2 : (srcRow (lab j)).view.emb y = at2 (lab j) (y 0) := row_place (lab j) y _
  rw [View.read_apply, View.read_apply, e1, e2]
  rfl

theorem labT_lt (L : grid0.Coords) (labs : S16384.Idx → Elt F .i32) (h : ∀ i, (labs i : BitVec 32).toNat < 100000) (x : S512.Idx) :
    (labT (F := F) L labs x : BitVec 32).toNat < 100000 := by
  unfold labT
  rw [View.read_apply]
  exact h _

/-- What each copy in leaves in its scratch buffer. -/
theorem lab_lands (L : grid0.Coords) (labs : S16384.Idx → Elt F .i32) (f : S512.Idx → Elt F .i32) :
    (idxM.view.write (Elt F) f (ReadAs.same.apply ((labS L).view.read (Elt F) labs)) Finset.univ : S512.Idx → Elt F .i32) = labT (F := F) L labs :=
  View.write_whole_univ cc0_scratch0 _ _
theorem featA_lands (L : grid0.Coords) (feat : S16384x64.Idx → Elt F .f32) (f : S256x64.Idx → Elt F .f32) :
    (fbufM.view.write (Elt F) f (ReadAs.same.apply ((featSA L).view.read (Elt F) feat)) Finset.univ : S256x64.Idx → Elt F .f32) = featA (F := F) L feat :=
  View.write_whole_univ cc0_scratch3 _ _
theorem featB_lands (L : grid0.Coords) (feat : S16384x64.Idx → Elt F .f32) (f : S256x64.Idx → Elt F .f32) :
    (fbufM.view.write (Elt F) f (ReadAs.same.apply ((featSB L).view.read (Elt F) feat)) Finset.univ : S256x64.Idx → Elt F .f32) = featB (F := F) L feat :=
  View.write_whole_univ cc0_scratch3 _ _

/-- The trip counts. -/
theorem trips1 : Scf.trips k0_t1_loop.lb k0_t1_loop.ub k0_t1_loop.st = 16 := by decide +kernel
theorem trips2 : Scf.trips k0_t2_loop.lb k0_t2_loop.ub k0_t2_loop.st = 16 := by decide +kernel
theorem trips3 : Scf.trips k0_t3_loop.lb k0_t3_loop.ub k0_t3_loop.st = 256 := by decide +kernel
theorem trips4 : Scf.trips k0_t4_loop.lb k0_t4_loop.ub k0_t4_loop.st = 256 := by decide +kernel
theorem trips5 : Scf.trips k0_t5_loop.lb k0_t5_loop.ub k0_t5_loop.st = 256 := by decide +kernel
theorem trips6 : Scf.trips k0_t6_loop.lb k0_t6_loop.ub k0_t6_loop.st = 256 := by decide +kernel

section Tile

variable (d : Dev nD) (L : grid0.Coords)

/-- A subcore's five semaphores the task uses, apart from its others. -/
theorem ownSems0_V :
    (SparseCore.Cfg.ownSems0 (V d (cV L) (jV L)) : sProp 𝕄)
      = iprop(semVal (V d (cV L) (jV L), .dma cc0_scratch5.sem) 0 ∗ semVal (V d (cV L) (jV L), .dma cc0_scratch6.sem) 0
          ∗ semVal (V d (cV L) (jV L), .dma cc0_scratch7.sem) 0 ∗ semVal (V d (cV L) (jV L), .dma cc0_scoped0.sem) 0
          ∗ semVal (V d (cV L) (jV L), .dma cc0_scoped1.sem) 0
          ∗ bigSep ((((((SparseCore.Cfg.ownCells (V d (cV L) (jV L))).erase (V d (cV L) (jV L), .dma cc0_scratch5.sem)).erase (V d (cV L) (jV L), .dma cc0_scratch6.sem)).erase
              (V d (cV L) (jV L), .dma cc0_scratch7.sem)).erase (V d (cV L) (jV L), .dma cc0_scoped0.sem)).erase (V d (cV L) (jV L), .dma cc0_scoped1.sem))
              fun g => semVal g 0) := by
  have hm : ∀ sm : SemLoc sig, sm.isScoped .scVector = true → (V d (cV L) (jV L), sm) ∈ SparseCore.Cfg.ownCells (V d (cV L) (jV L)) :=
    fun sm h => SparseCore.Cfg.mem_ownCells.mpr ⟨rfl, h⟩
  have hne : ∀ {a b : SemLoc sig}, a ≠ b → (V d (cV L) (jV L), a) ≠ (V d (cV L) (jV L), b) := fun h e => h (congrArg Prod.snd e)
  unfold SparseCore.Cfg.ownSems0
  rw [SparseCore.bigSep_erase' (hm (.dma cc0_scratch5.sem) (by decide)),
    SparseCore.bigSep_erase' (Finset.mem_erase.mpr ⟨hne (by decide), hm (.dma cc0_scratch6.sem) (by decide)⟩),
    SparseCore.bigSep_erase' (Finset.mem_erase.mpr ⟨hne (by decide), Finset.mem_erase.mpr ⟨hne (by decide), hm (.dma cc0_scratch7.sem) (by decide)⟩⟩),
    SparseCore.bigSep_erase' (Finset.mem_erase.mpr ⟨hne (by decide), Finset.mem_erase.mpr ⟨hne (by decide), Finset.mem_erase.mpr ⟨hne (by decide),
      hm (.dma cc0_scoped0.sem) (by decide)⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), hm (.dma cc0_scoped1.sem) (by decide)⟩⟩⟩⟩)]

/-- A subcore's buffer `b`, as the key of its own buffers. -/
abbrev keyV (b : Ref sig .scVector) : DevRef τ sig := (Proc.scVector (cV L) (jV L)).devRef b

/-- A subcore's five scratch buffers, at some contents, apart from its others. -/
theorem ownBufs_V :
    (SparseCore.Cfg.ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((SparseCore.Cfg.ownRefs (τ := τ) (.scVector (cV L) (jV L))).erase (keyV L cc0_scratch0)).erase (keyV L cc0_scratch1)).erase
              (keyV L cc0_scratch2)).erase (keyV L cc0_scratch3)).erase (keyV L cc0_scratch4))
              fun b => iprop(∃ f, ((d, b) : Loc nD τ sig) ↦{fullShare} f)) := by
  have hm : ∀ b : Ref sig .scVector, (keyV L b).owner = .proc (.scVector (cV L) (jV L)) → keyV L b ∈ SparseCore.Cfg.ownRefs (τ := τ) (.scVector (cV L) (jV L)) :=
    fun b h => SparseCore.Cfg.mem_ownRefs_of_owner (p := Proc.scVector (cV L) (jV L)) h
  have hne : ∀ {a b : Ref sig .scVector}, a ≠ b → keyV L a ≠ keyV L b := fun h e => h (Proc.devRef_injective _ e)
  unfold SparseCore.Cfg.ownBufs
  refine (SparseCore.bigSep_erase' (hm cc0_scratch0 rfl)).trans ?_
  rw [SparseCore.bigSep_erase' (Finset.mem_erase.mpr ⟨hne (by decide), hm cc0_scratch1 rfl⟩),
    SparseCore.bigSep_erase' (Finset.mem_erase.mpr ⟨hne (by decide), Finset.mem_erase.mpr ⟨hne (by decide), hm cc0_scratch2 rfl⟩⟩),
    SparseCore.bigSep_erase' (Finset.mem_erase.mpr ⟨hne (by decide), Finset.mem_erase.mpr ⟨hne (by decide), Finset.mem_erase.mpr ⟨hne (by decide),
      hm cc0_scratch3 rfl⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), hm cc0_scratch4 rfl⟩⟩⟩⟩)]

/-- A memref whole at a share is a slice of it at that share and the rest. -/
theorem slice_out {sp : Space} {sh : Shape} {e : EltTy} (m : Memref sig .scVector sp sh e) (I : Finset (Idx (m.view.loc (V d (cV L) (jV L)))))
    (q : PosShare TreeShare) (f : Buf (Elt F) (m.view.loc (V d (cV L) (jV L)))) :
    (m.view.loc (V d (cV L) (jV L)) ↦[Finset.univ]{q} f : sProp 𝕄)
      = iprop((m.view.loc (V d (cV L) (jV L)) ↦[I]{q} f) ∗ (m.view.loc (V d (cV L) (jV L)) ↦[Finset.univ \ I]{q} f)) :=
  BI.equiv_iff.mp ⟨(pointsTo_split_subset (Finset.subset_univ I)).1, (pointsTo_split_subset (Finset.subset_univ I)).2⟩

variable (q : PosShare TreeShare) (feat : S16384x64.Idx → Elt F .f32) (labs : S16384.Idx → Elt F .i32) (tab : S100000x64.Idx → Elt F .f32)
  (out : S512.Idx → Elt F .f32)

/-- What a tile is given to read: a share of each argument. -/
def argsPts : sProp 𝕄 :=
  iprop((featM.view.loc (V d (cV L) (jV L)) ↦[Finset.univ]{q} feat) ∗ (labM.view.loc (V d (cV L) (jV L)) ↦[Finset.univ]{q} labs)
    ∗ (tabM.view.loc (V d (cV L) (jV L)) ↦[Finset.univ]{q} tab))

/-- The 16 places of the result a tile writes. -/
def outPts : sProp 𝕄 := iprop(outM.view.loc (V d (cV L) (jV L)) ↦[(outS L).view.set]{fullShare} out)

/-- The partial sums' buffer, whole, as its copy out takes it. -/
theorem acc_set (f : Buf (Elt F) (accM.view.loc (V d (cV L) (jV L)))) :
    (accM.view.loc (V d (cV L) (jV L)) ↦[Finset.univ]{fullShare} f : sProp 𝕄) = (accM.view.loc (V d (cV L) (jV L)) ↦[accM.view.set]{fullShare} f) := by
  rw [show accM.view.set = Finset.univ from View.set_whole _]

/-- What that copy reads: the partial sums, stored over whatever the buffer held. -/
theorem acc_reads (f : S16.Idx → Elt F .f32) :
    (ReadAs.same.apply (accM.view.read (Elt F) ((accM.access (Rect.unit (s := S16) ![0] S16.size inb_S16_S16_0)).write (Elt F) f
      (k0_pay5 (sumB L feat labs tab 0) (sumB L feat labs tab 1) (sumB L feat labs tab 2) (sumB L feat labs tab 3)) Finset.univ)) : S16.Idx → Elt F .f32)
      = tileVec L feat labs tab := by
  unfold tileVec
  exact Memref.write_access_unit_zero_univ (Elt F) cc0_scratch4 (off := ![0]) (funext fun | 0 => rfl) inb_S16_S16_0 f _

/-- A wait recorded is one of the thread's own. -/
theorem own_wait {W W' : Waits sig (HIx 1)} (h : ∀ p ∈ W', p ∈ W ∨ p.2 = none) (sm : SemLoc sig) :
    ∀ p ∈ insert (sm, (none : HIx 1)) W', p ∈ W ∨ p.2 = none :=
  fun p hp => (Finset.mem_insert.mp hp).elim (fun e => .inr (congrArg Prod.snd e)) (h p)

set_option maxHeartbeats 4000000 in
/-- The task of one tile. Given a share of each argument and its 16 places of the result, it leaves there its 16
    partial sums, and gives back the shares. -/
theorem tile_body (hF : (K (F := F)).Facts) (hpre : ∀ i, (labs i : BitVec 32).toNat < 100000)
    (OUT : S512.Idx → Elt F .f32) (hOUT : (outS L).view.read (Elt F) OUT = tileVec L feat labs tab)
    (O : CellTallies nD τ sig (HIx 1)) (W : Waits sig (HIx 1)) (hO : ∀ g, O g none = 0) :
    iprop(levAts (K (F := F)).L (K (F := F)).lev ∗ (argsPts d L q feat labs tab ∗ outPts d L out)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__proto_loss_partials L featM (Memref.isWhole_whole _) labM (Memref.isWhole_whole _) tabM (Memref.isWhole_whole _)
            outM (Memref.isWhole_whole _) idxM (Memref.isWhole_whole _) rowsA (Memref.isWhole_whole _) rowsB (Memref.isWhole_whole _)
            fbufM (Memref.isWhole_whole _) accM (Memref.isWhole_whole _) cc0_scratch5 cc0_scratch6 cc0_scratch7 cc0_scoped0 cc0_scoped1)
          fun _ => iprop((argsPts d L q feat labs tab ∗ outPts d L OUT)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__proto_loss_partials_eq_skeleton]
  unfold cc0__proto_loss_partials_skel
  simp only [k0_part11_eq_skeleton]
  unfold k0_part11_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V, ownBufs_V]
  unfold argsPts outPts
  iintro ⟨#Hlv, ⟨⟨Hfeat, Hlabs, Htab⟩, Hout⟩, ⟨⟨%f0, Hidx⟩, ⟨%f1, HA⟩, ⟨%f2, HB⟩, ⟨%f3, Hfb⟩, ⟨%f4, Hacc⟩, Hbufs⟩,
    ⟨HsA, HsB, HsF, Hs0, Hs1, Hsems⟩, HO⟩
  ihave #Hmw := ((K (F := F)).mayWaits_none (thr := V d (cV L) (jV L)) hO) $$ Hlv
  -- the labels
  ihave Hlabs := (Entails.of_eq (slice_out d L labM (labS L).view.set q labs)) $$ Hlabs
  icases Hlabs with ⟨HlabS, HlabR⟩
  -- their copy in
  iapply (Transfers.wp_dmaLocal EC 𝒱₀ (V d (cV L) (jV L)) none (src := labS L) (dst := idxM) (q := q) (fs := labs) (fd := f0) (Sd := Finset.univ)
    none _ rfl (View.dmaCredit_pos _ (by decide)) (Finset.subset_univ _)) $$ [HlabS Hidx Hs0]
  · isplitl [HlabS]; · iexact HlabS
    isplitl [Hidx]; · iexact Hidx
    iexact Hs0
  iintro Hfl
  iapply (Transfers.wp_waitLocalO EC 𝒱₀ (V d (cV L) (jV L)) none none rfl (O := O) (W := W)) $$ [Hfl HO]
  · isplitl [Hfl]; · iexact Hfl
    isplitl [HO]; · iexact HO
    iapply (Transfers.MayWaits.elim (.dma cc0_scoped0.sem)) $$ Hmw
  iintro ⟨⟨Hidx, HlabS⟩, Hs0, HO⟩
  ihave Hlabs := (Entails.of_eq (slice_out d L labM (labS L).view.set q labs).symm) $$ [HlabS HlabR]
  · isplitl [HlabS]; · iexact HlabS
    iexact HlabR
  ihave Hidx := (Entails.of_eq (congrArg (fun g => (idxM.view.loc (V d (cV L) (jV L)) ↦[Finset.univ]{fullShare} g : sProp 𝕄))
    (lab_lands L labs f0))) $$ Hidx
  -- the first half of the features starts its way in
  ihave Hfeat := (Entails.of_eq (slice_out d L featM (featSA L).view.set q feat)) $$ Hfeat
  icases Hfeat with ⟨HfeatS, HfeatR⟩
  -- its copy
  iapply (Transfers.wp_dmaLocal EC 𝒱₀ (V d (cV L) (jV L)) none (src := featSA L) (dst := fbufM) (q := q) (fs := feat) (fd := f3) (Sd := Finset.univ)
    none _ rfl (View.dmaCredit_pos _ (by decide)) (Finset.subset_univ _)) $$ [HfeatS Hfb HsF]
  · isplitl [HfeatS]; · iexact HfeatS
    isplitl [Hfb]; · iexact Hfb
    iexact HsF
  iintro Hfl
  -- the table's share, half of it for each buffer's rows, dealt to the rows' copies
  ihave Htab := (pointsTo_share (PosShare.mem_left_op_right q)).1 $$ Htab
  icases Htab with ⟨HtA, HtB⟩
  ihave HtA := (tab_deal d (cV L) (jV L) q.left (labA (F := F) L labs) tab).1 $$ HtA
  icases HtA with ⟨HtA, HrA⟩
  ihave HtB := (tab_deal d (cV L) (jV L) q.right (labB (F := F) L labs) tab).1 $$ HtB
  icases HtB with ⟨HtB, HrB⟩
  imod (rows_start d (cV L) (jV L) rowsA cc0_scratch5.sem q.left (labA (F := F) L labs) tab (gath tab (labA (F := F) L labs)) f1 (View.set_whole _)) $$ [HsA HA HtA] with HA
  · isplitl [HsA]; · iexact HsA
    isplitl [HA]; · iexact HA
    iexact HtA
  imod (rows_start d (cV L) (jV L) rowsB cc0_scratch6.sem q.right (labB (F := F) L labs) tab (gath tab (labB (F := F) L labs)) f2 (View.set_whole _)) $$ [HsB HB HtB] with HB
  · isplitl [HsB]; · iexact HsB
    isplitl [HB]; · iexact HB
    iexact HtB
  iapply (Scf.wp_for_bind frame (wpE (defs₀ (F := F)) 𝒱₀ (V d (cV L) (jV L)) none) Set.univ k0_t1_loop.lb k0_t1_loop.ub k0_t1_loop.st k0_t1_ok _ _
    (fun k _ => iprop((idxM.view.loc (V d (cV L) (jV L)) ↦[Finset.univ]{fullShare} labT (F := F) L labs)
      ∗ issued d (cV L) (jV L) rowsA cc0_scratch5.sem q.left (labA (F := F) L labs) tab (gath tab (labA (F := F) L labs)) f1 (16 * k))) (fun t x => issueA_step d L q.left (labA (F := F) L labs) tab (labT (F := F) L labs) (gath tab (labA (F := F) L labs)) f1 (gathA_read tab _) (fun j => rowOf_val (labT_lt L labs hpre _)) t x)) $$ [Hidx HA]
  · isplitl [Hidx]; · iexact Hidx
    iexact HA
  iintro %x1
  rw [trips1]
  iintro ⟨Hidx, HA⟩
  iapply (Scf.wp_for_bind frame (wpE (defs₀ (F := F)) 𝒱₀ (V d (cV L) (jV L)) none) Set.univ k0_t2_loop.lb k0_t2_loop.ub k0_t2_loop.st k0_t2_ok _ _
    (fun k _ => iprop((idxM.view.loc (V d (cV L) (jV L)) ↦[Finset.univ]{fullShare} labT (F := F) L labs)
      ∗ issued d (cV L) (jV L) rowsB cc0_scratch6.sem q.right (labB (F := F) L labs) tab (gath tab (labB (F := F) L labs)) f2 (16 * k))) (fun t x => issueB_step d L q.right (labB (F := F) L labs) tab (labT (F := F) L labs) (gath tab (labB (F := F) L labs)) f2 (gathB_read tab _) (fun j => rowOf_val (labT_lt L labs hpre _)) t x)) $$ [Hidx HB]
  · isplitl [Hidx]; · iexact Hidx
    iexact HB
  iintro %x2
  rw [trips2]
  iintro ⟨Hidx, HB⟩
  ihave HA := (issued_all d (cV L) (jV L) rowsA cc0_scratch5.sem q.left (labA (F := F) L labs) tab (gath tab (labA (F := F) L labs)) f1) $$ HA
  ihave HB := (issued_all d (cV L) (jV L) rowsB cc0_scratch6.sem q.right (labB (F := F) L labs) tab (gath tab (labB (F := F) L labs)) f2) $$ HB
  -- the waits for the first half's rows
  iapply (Scf.wp_for_bind frame (wpE (defs₀ (F := F)) 𝒱₀ (V d (cV L) (jV L)) none) Set.univ k0_t3_loop.lb k0_t3_loop.ub k0_t3_loop.st k0_t3_ok _ _
    (fun k _ => waited d L q.left (labA (F := F) L labs) tab rowsA cc0_scratch5.sem (gath tab (labA (F := F) L labs)) O W k) (fun t x => waitA_step d L q.left _ tab _ O W t x)) $$ [HA HO]
  · unfold waited
    isplitr; · iexact Hmw
    isplitl [HA]; · iexact HA
    iexists _
    isplitr; · ipureintro; exact own_wait (fun p hp => .inl hp) (.dma cc0_scoped0.sem)
    iexact HO
  iintro %x3
  rw [trips3]
  unfold waited
  iintro ⟨-, HA, %W1, %hW1, HO⟩
  imod (rows_finish d (cV L) (jV L) rowsA cc0_scratch5.sem q.left (labA (F := F) L labs) tab (gath tab (labA (F := F) L labs)) (View.set_whole _)) $$ HA with ⟨HsA, HA, HtA⟩
  -- the first half of the features has come
  iapply (Transfers.wp_waitLocalO EC 𝒱₀ (V d (cV L) (jV L)) none none rfl (O := O) (W := W1)) $$ [Hfl HO]
  · isplitl [Hfl]; · iexact Hfl
    isplitl [HO]; · iexact HO
    iapply (Transfers.MayWaits.elim (.dma cc0_scratch7.sem)) $$ Hmw
  iintro ⟨⟨Hfb, HfeatS⟩, HsF, HO⟩
  ihave Hfeat := (Entails.of_eq (slice_out d L featM (featSA L).view.set q feat).symm) $$ [HfeatS HfeatR]
  · isplitl [HfeatS]; · iexact HfeatS
    iexact HfeatR
  ihave Hfb := (Entails.of_eq (congrArg (fun g => (fbufM.view.loc (V d (cV L) (jV L)) ↦[Finset.univ]{fullShare} g : sProp 𝕄))
    (featA_lands L feat f3))) $$ Hfb
  -- the first half's sums
  iapply (Scf.wp_for_bind frame (wpE (defs₀ (F := F)) 𝒱₀ (V d (cV L) (jV L)) none) Set.univ k0_t4_loop.lb k0_t4_loop.ub k0_t4_loop.st k0_t4_ok _ _
    (added d L rowsA (featA L feat) (gath tab (labA (F := F) L labs)) (fun _ => k0_pay40)) (fun t p => addA_step d L (featA L feat) (gath tab (labA (F := F) L labs)) (fun _ => k0_pay40) t p)) $$ [Hfb HA]
  · unfold added
    isplitl [Hfb]; · iexact Hfb
    isplitl [HA]; · iexact HA
    ipureintro; rfl
  iintro %p4
  rw [trips4]
  unfold added
  iintro ⟨Hfb, HA, %hp4⟩
  subst hp4
  -- the second half of the features starts its way in
  ihave Hfeat := (Entails.of_eq (slice_out d L featM (featSB L).view.set q feat)) $$ Hfeat
  icases Hfeat with ⟨HfeatS, HfeatR⟩
  -- its copy
  iapply (Transfers.wp_dmaLocal EC 𝒱₀ (V d (cV L) (jV L)) none (src := featSB L) (dst := fbufM) (q := q) (fs := feat) (fd := featA (F := F) L feat) (Sd := Finset.univ)
    none _ rfl (View.dmaCredit_pos _ (by decide)) (Finset.subset_univ _)) $$ [HfeatS Hfb HsF]
  · isplitl [HfeatS]; · iexact HfeatS
    isplitl [Hfb]; · iexact Hfb
    iexact HsF
  iintro Hfl
  -- the waits for the second half's rows
  iapply (Scf.wp_for_bind frame (wpE (defs₀ (F := F)) 𝒱₀ (V d (cV L) (jV L)) none) Set.univ k0_t5_loop.lb k0_t5_loop.ub k0_t5_loop.st k0_t5_ok _ _
    (fun k _ => waited d L q.right (labB (F := F) L labs) tab rowsB cc0_scratch6.sem (gath tab (labB (F := F) L labs)) O W k) (fun t x => waitB_step d L q.right _ tab _ O W t x)) $$ [HB HO]
  · unfold waited
    isplitr; · iexact Hmw
    isplitl [HB]; · iexact HB
    iexists _
    isplitr; · ipureintro; exact own_wait hW1 (.dma cc0_scratch7.sem)
    iexact HO
  iintro %x5
  rw [trips5]
  unfold waited
  iintro ⟨-, HB, %W2, %hW2, HO⟩
  imod (rows_finish d (cV L) (jV L) rowsB cc0_scratch6.sem q.right (labB (F := F) L labs) tab (gath tab (labB (F := F) L labs)) (View.set_whole _)) $$ HB with ⟨HsB, HB, HtB⟩
  -- the second half of the features has come
  iapply (Transfers.wp_waitLocalO EC 𝒱₀ (V d (cV L) (jV L)) none none rfl (O := O) (W := W2)) $$ [Hfl HO]
  · isplitl [Hfl]; · iexact Hfl
    isplitl [HO]; · iexact HO
    iapply (Transfers.MayWaits.elim (.dma cc0_scratch7.sem)) $$ Hmw
  iintro ⟨⟨Hfb, HfeatS⟩, HsF, HO⟩
  ihave Hfeat := (Entails.of_eq (slice_out d L featM (featSB L).view.set q feat).symm) $$ [HfeatS HfeatR]
  · isplitl [HfeatS]; · iexact HfeatS
    iexact HfeatR
  ihave Hfb := (Entails.of_eq (congrArg (fun g => (fbufM.view.loc (V d (cV L) (jV L)) ↦[Finset.univ]{fullShare} g : sProp 𝕄))
    (featB_lands L feat (featA (F := F) L feat)))) $$ Hfb
  -- both halves' sums
  iapply (Scf.wp_for_bind frame (wpE (defs₀ (F := F)) 𝒱₀ (V d (cV L) (jV L)) none) Set.univ k0_t6_loop.lb k0_t6_loop.ub k0_t6_loop.st k0_t6_ok _ _
    (added d L rowsB (featB L feat) (gath tab (labB (F := F) L labs)) (sumA L feat labs tab)) (fun t p => addB_step d L (featB L feat) (gath tab (labB (F := F) L labs)) (sumA L feat labs tab) t p)) $$ [Hfb HB]
  · unfold added
    isplitl [Hfb]; · iexact Hfb
    isplitl [HB]; · iexact HB
    ipureintro; rfl
  iintro %p6
  rw [trips6]
  unfold added
  iintro ⟨Hfb, HB, %hp6⟩
  subst hp6
  -- the partial sums, put down and copied out
  iapply (wp_load 𝒱₀ (V d (cV L) (jV L)) none Set.univ (m := accM) (S := Finset.univ) (Finset.subset_univ _)) $$ Hacc
  iintro Hacc
  iapply (wp_store 𝒱₀ (V d (cV L) (jV L)) none Set.univ (m := accM) (r := Rect.unit (s := S16) ![0] S16.size inb_S16_S16_0) (Mk := Finset.univ)
    (S := Finset.univ) (Finset.subset_univ _)) $$ Hacc
  iintro Hacc
  ihave Hacc := (Entails.of_eq (acc_set d L _)) $$ Hacc
  -- their copy out
  iapply (Transfers.wp_dmaLocal EC 𝒱₀ (V d (cV L) (jV L)) none (src := accM) (dst := outS L) (q := fullShare) (fs := _) (fd := out) (Sd := (outS L).view.set)
    none _ rfl (View.dmaCredit_pos _ (by decide)) (Finset.Subset.refl _)) $$ [Hacc Hout Hs1]
  · isplitl [Hacc]; · iexact Hacc
    isplitl [Hout]; · iexact Hout
    iexact Hs1
  iintro Hfl
  iapply (Transfers.wp_waitLocalO EC 𝒱₀ (V d (cV L) (jV L)) none none rfl (O := O) (W := _)) $$ [Hfl HO]
  · isplitl [Hfl]; · iexact Hfl
    isplitl [HO]; · iexact HO
    iapply (Transfers.MayWaits.elim (.dma cc0_scoped1.sem)) $$ Hmw
  iintro ⟨⟨Hout, Hacc⟩, Hs1, HO⟩
  ihave Hout := (Entails.of_eq (pointsTo_congr (write_eq_of_read (outS L).view out OUT _ (hOUT.trans (acc_reads L feat labs tab f4).symm)))) $$ Hout
  ihave Hacc := (Entails.of_eq (acc_set d L _).symm) $$ Hacc
  -- the shares of the table come together again
  ihave HtA := (tab_deal d (cV L) (jV L) q.left (labA (F := F) L labs) tab).2 $$ [HtA HrA]
  · isplitl [HtA]; · iexact HtA
    iexact HrA
  ihave HtB := (tab_deal d (cV L) (jV L) q.right (labB (F := F) L labs) tab).2 $$ [HtB HrB]
  · isplitl [HtB]; · iexact HtB
    iexact HrB
  ihave Htab := (pointsTo_share (PosShare.mem_left_op_right q)).2 $$ [HtA HtB]
  · isplitl [HtA]; · iexact HtA
    iexact HtB
  rw [wp_ret]
  imodintro
  isplitl [Hfeat Hlabs Htab Hout]
  · isplitl [Hfeat Hlabs Htab]
    · isplitl [Hfeat]; · iexact Hfeat
      isplitl [Hlabs]; · iexact Hlabs
      iexact Htab
    iexact Hout
  isplitl [Hidx HA HB Hfb Hacc Hbufs]
  · isplitl [Hidx]; · iexists _; iexact Hidx
    isplitl [HA]; · iexists _; iexact HA
    isplitl [HB]; · iexists _; iexact HB
    isplitl [Hfb]; · iexists _; iexact Hfb
    isplitl [Hacc]; · iexists _; iexact Hacc
    iexact Hbufs
  isplitl [HsA HsB HsF Hs0 Hs1 Hsems]
  · isplitl [HsA]; · iexact HsA
    isplitl [HsB]; · iexact HsB
    isplitl [HsF]; · iexact HsF
    isplitl [Hs0]; · iexact Hs0
    isplitl [Hs1]; · iexact Hs1
    iexact Hsems
  iexists _
  isplitr
  · ipureintro
    exact own_wait (own_wait hW2 (.dma cc0_scratch7.sem)) (.dma cc0_scoped1.sem)
  iexact HO

end Tile

end Cert.Proof.Run
-- ==== Proof.Deal.lean ====
/- What the launch hands each SparseCore and each tile, and what they hand back: read shares of the three arguments,
   and the places of the result the tile writes. A tile's 16 places are places `16 w … 16 w + 15` of the 512, `w` its
   number; together the 32 tiles' are all of them. -/
module

public import proofs.«01_k».proof.Proof.Tile

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

/-- The coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- Two tiles of one core and one subcore number are one tile. -/
theorem coords_ext {L L' : grid0.Coords} (h0 : (L 0).val = (L' 0).val) (h1 : (L 1).val = (L' 1).val) : L = L' := by
  funext a
  match a with
  | 0 => exact Fin.ext h0
  | 1 => exact Fin.ext h1

/-- A tile's number: its core and its subcore. -/
abbrev wid (L : grid0.Coords) : ℕ := 2 * (L 1).val + (L 0).val

theorem core_lt (L : grid0.Coords) : (L 0).val < 2 := (L 0).isLt
theorem sub_lt (L : grid0.Coords) : (L 1).val < 16 := (L 1).isLt

/-- The tile of a number below 32. -/
def tileOf (w : ℕ) (h : w < 32) : grid0.Coords :=
  coordsV ⟨w % 2, Nat.mod_lt _ (by decide)⟩ ⟨w / 2, by show w / 2 < 16; omega⟩

theorem wid_tileOf (w : ℕ) (h : w < 32) : wid (tileOf w h) = w := by
  show 2 * (w / 2) + w % 2 = w
  omega

theorem tileOf_eq {w : ℕ} (h : w < 32) (L : grid0.Coords) (e : w = wid L) : tileOf w h = L := by
  have := core_lt L
  subst e
  refine coords_ext ?_ ?_
  · show (2 * (L 1).val + (L 0).val) % 2 = _; omega
  · show (2 * (L 1).val + (L 0).val) / 2 = _; omega

/-- The 512 partial sums the tiles write. -/
def partials (feat : S16384x64.Idx → Elt F .f32) (labs : S16384.Idx → Elt F .i32) (tab : S100000x64.Idx → Elt F .f32) : S512.Idx → Elt F .f32 :=
  fun x => tileVec (tileOf ((x 0).val / 16) (by have : (x 0).val < 512 := (x 0).isLt; omega)) feat labs tab (at1 ⟨(x 0).val % 16, Nat.mod_lt _ (by decide)⟩)

/-- Lane `y` of a tile's places. -/
theorem out_place (L : grid0.Coords) (y : S16.Idx) : ((outS L).view.emb y 0 : Fin 512).val = 16 * wid L + (y 0).val := by
  show (k0_off80 L) 0 + 1 * (y 0).val = _
  rw [k0_off80_eq L]
  show 32 * (L 1).val + 16 * (L 0).val + 1 * (y 0).val = _
  unfold wid
  omega

theorem partials_read (L : grid0.Coords) (feat : S16384x64.Idx → Elt F .f32) (labs : S16384.Idx → Elt F .i32) (tab : S100000x64.Idx → Elt F .f32) :
    (outS L).view.read (Elt F) (partials feat labs tab) = tileVec L feat labs tab := by
  funext y
  rw [View.read_apply]
  have hy : (y 0).val < 16 := (y 0).isLt
  have hp := out_place L y
  show tileVec (tileOf (((outS L).view.emb y 0 : Fin 512).val / 16) _) feat labs tab (at1 ⟨((outS L).view.emb y 0 : Fin 512).val % 16, _⟩) = _
  rw [tileOf_eq _ L (by rw [hp]; omega)]
  congr 1
  funext a
  match a with
  | 0 => apply Fin.ext; show ((outS L).view.emb y 0 : Fin 512).val % 16 = (y 0).val; rw [hp]; omega

/-- The places a tile writes are those whose block of 16 has its number. -/
theorem mem_out (L : grid0.Coords) (x : S512.Idx) : x ∈ (outS L).view.set ↔ (x 0).val / 16 = wid L := by
  constructor
  · intro h
    obtain ⟨y, -, rfl⟩ := Finset.mem_map.mp h
    have hy : (y 0).val < 16 := (y 0).isLt
    rw [out_place]; omega
  · intro h
    refine Finset.mem_map.mpr ⟨at1 ⟨(x 0).val % 16, Nat.mod_lt _ (by decide)⟩, Finset.mem_univ _, ?_⟩
    funext a
    match a with
    | 0 =>
      apply Fin.ext
      rw [out_place]
      show 16 * wid L + (x 0).val % 16 = (x 0).val
      omega

/-! ## What the handshakes carry -/

variable (m : (ℓ : Loc nD τ sig) → Buf (Elt F) ℓ)

abbrev fLoc (d : Dev nD) : Loc nD τ sig := (SparseCore.T d).loc main_arg0
abbrev lLoc (d : Dev nD) : Loc nD τ sig := (SparseCore.T d).loc main_arg1
abbrev pLoc (d : Dev nD) : Loc nD τ sig := (SparseCore.T d).loc main_arg2
abbrev oLoc (d : Dev nD) : Loc nD τ sig := (SparseCore.T d).loc main_v0

/-- The three arguments at a share, at their launch contents. -/
def args (d : Dev nD) (q : PosShare TreeShare) : sProp 𝕄 :=
  iprop((fLoc d ↦{q} m (fLoc d)) ∗ (lLoc d ↦{q} m (lLoc d)) ∗ (pLoc d ↦{q} m (pLoc d)))

/-- The places of the result one tile writes, and those one core's tiles write. -/
def outTile (d : Dev nD) (c : Fin 2) (f : Buf (Elt F) (oLoc d)) (s : Fin 16) : sProp 𝕄 := iprop(oLoc d ↦[(outS (coordsV c s)).view.set]{fullShare} f)
def outCore (d : Dev nD) (f : Buf (Elt F) (oLoc d)) (c : Fin 2) : sProp 𝕄 := bigSep Finset.univ (outTile d c f)

/-- The partial sums of a memory's arguments. -/
def PART (d : Dev nD) : Buf (Elt F) (oLoc d) := partials (m (fLoc d)) (m (lLoc d)) (m (pLoc d))

/-- A core's read share, and a tile's. -/
abbrev qC (c : Fin 2) : PosShare TreeShare := Transfers.shareTok fullShare 2 c
abbrev qT (c : Fin 2) (s : Fin 16) : PosShare TreeShare := Transfers.shareTok (qC c) 16 s

instance args_storable (d : Dev nD) (q) : BI.Storable (upEmb : UEmb _ 𝕄) (args m d q) := by unfold args; infer_instance
instance outTile_storable (d : Dev nD) (c f s) : BI.Storable (upEmb : UEmb _ 𝕄) (outTile d c f s) := by unfold outTile; infer_instance
instance outCore_storable (d : Dev nD) (f c) : BI.Storable (upEmb : UEmb _ 𝕄) (outCore d f c) := by unfold outCore; infer_instance

theorem nCore_zero : (K (F := F)).nCore 0 = 2 := rfl
theorem nSub_zero : (K (F := F)).nSub 0 = 16 := rfl

/-- The call takes a share of the arguments and the result's places to each core, and to each tile its part of both;
    they come back with the partial sums in the places. -/
def P : (K (F := F)).Pay (nD := nD) (Val := Elt F) (Name := ℕ) (U := UU) where
  st := fun q d c => match q with | 0 => iprop(args m d (qC (Fin.cast nCore_zero c)) ∗ outCore d (m (oLoc d)) (Fin.cast nCore_zero c))
  dn := fun q d c => match q with | 0 => iprop(args m d (qC (Fin.cast nCore_zero c)) ∗ outCore d (PART m d) (Fin.cast nCore_zero c))
  go := fun q d c i => match q with | 0 => iprop(args m d (qT (Fin.cast nCore_zero c) (Fin.cast nSub_zero i)) ∗ outTile d (Fin.cast nCore_zero c) (m (oLoc d)) (Fin.cast nSub_zero i))
  td := fun q d c i => match q with | 0 => iprop(args m d (qT (Fin.cast nCore_zero c) (Fin.cast nSub_zero i)) ∗ outTile d (Fin.cast nCore_zero c) (PART m d) (Fin.cast nSub_zero i))
  x := fun _ _ => iprop(emp)

instance P_storable : (P (F := F) m).IsStorable where
  st q d c := match q with
    | 0 => (inferInstance : BI.Storable (upEmb : UEmb _ 𝕄) iprop(args m d (qC (Fin.cast nCore_zero c)) ∗ outCore d (m (oLoc d)) (Fin.cast nCore_zero c)))
  dn q d c := match q with
    | 0 => (inferInstance : BI.Storable (upEmb : UEmb _ 𝕄) iprop(args m d (qC (Fin.cast nCore_zero c)) ∗ outCore d (PART m d) (Fin.cast nCore_zero c)))
  go q d c i := match q with
    | 0 => (inferInstance : BI.Storable (upEmb : UEmb _ 𝕄) iprop(args m d (qT (Fin.cast nCore_zero c) (Fin.cast nSub_zero i)) ∗ outTile d (Fin.cast nCore_zero c) (m (oLoc d)) (Fin.cast nSub_zero i)))
  td q d c i := match q with
    | 0 => (inferInstance : BI.Storable (upEmb : UEmb _ 𝕄) iprop(args m d (qT (Fin.cast nCore_zero c) (Fin.cast nSub_zero i)) ∗ outTile d (Fin.cast nCore_zero c) (PART m d) (Fin.cast nSub_zero i)))

/-- The arguments at a share are they at `n` shares of it and at what is left. -/
theorem args_deal (d : Dev nD) (q : PosShare TreeShare) (n : ℕ) :
    args m d q ⊣⊢ iprop((bigSep Finset.univ fun i : Fin n => args m d (Transfers.shareTok q n i)) ∗ args m d (Transfers.shareDrop q n)) := by
  have h (ℓ : Loc nD τ sig) := Transfers.pointsTo_toks (Ix := HIx 1) (Name := ℕ) (U := UU) (Lvl := ℕ) (ℓ := ℓ) (S := Finset.univ) (f := m ℓ) q n
  unfold args
  rw [bigSep_sep', bigSep_sep']
  constructor
  · iintro ⟨Hf, Hl, Hp⟩
    ihave Hf := (h (fLoc d)).1 $$ Hf
    icases Hf with ⟨Hf0, Hf⟩
    ihave Hl := (h (lLoc d)).1 $$ Hl
    icases Hl with ⟨Hl0, Hl⟩
    ihave Hp := (h (pLoc d)).1 $$ Hp
    icases Hp with ⟨Hp0, Hp⟩
    isplitl [Hf Hl Hp]
    · isplitl [Hf]; · iexact Hf
      isplitl [Hl]; · iexact Hl
      iexact Hp
    isplitl [Hf0]; · iexact Hf0
    isplitl [Hl0]; · iexact Hl0
    iexact Hp0
  · iintro ⟨⟨Hf, Hl, Hp⟩, Hf0, Hl0, Hp0⟩
    isplitl [Hf Hf0]
    · iapply (h (fLoc d)).2
      isplitl [Hf0]; · iexact Hf0
      iexact Hf
    isplitl [Hl Hl0]
    · iapply (h (lLoc d)).2
      isplitl [Hl0]; · iexact Hl0
      iexact Hl
    iapply (h (pLoc d)).2
    isplitl [Hp0]; · iexact Hp0
    iexact Hp

/-- The places of one tile, as a set of places of the result. -/
def oSet (d : Dev nD) (p : Fin 2 × Fin 16) : Finset (Idx (oLoc d)) := (outS (coordsV p.1 p.2)).view.set

theorem mem_oSet (d : Dev nD) (p : Fin 2 × Fin 16) (x : S512.Idx) : x ∈ oSet d p ↔ (x 0).val / 16 = 2 * p.2.val + p.1.val := mem_out _ x

/-- The result whole is its two cores' places. -/
theorem out_deal (d : Dev nD) (f : Buf (Elt F) (oLoc d)) : (oLoc d ↦{fullShare} f : sProp 𝕄) = bigSep Finset.univ (outCore d f) := by
  have hd : ∀ p ∈ (Finset.univ : Finset (Fin 2 × Fin 16)), ∀ p' ∈ (Finset.univ : Finset (Fin 2 × Fin 16)), p ≠ p' →
      Disjoint (oSet d p) (oSet d p') := by
    intro p _ p' _ hne
    refine Finset.disjoint_left.mpr fun x h h' => hne ?_
    have e := ((mem_oSet d p x).mp h).symm.trans ((mem_oSet d p' x).mp h')
    have := p.1.isLt; have := p'.1.isLt
    exact Prod.ext (Fin.ext (by omega)) (Fin.ext (by omega))
  have hc : (Finset.univ : Finset (Fin 2 × Fin 16)).biUnion (oSet d) = Finset.univ := by
    refine Finset.eq_univ_of_forall fun x => ?_
    have hx : ((x : S512.Idx) 0).val < 512 := ((x : S512.Idx) 0).isLt
    refine Finset.mem_biUnion.mpr ⟨(⟨((x : S512.Idx) 0).val / 16 % 2, Nat.mod_lt _ (by decide)⟩, ⟨((x : S512.Idx) 0).val / 32, by omega⟩), Finset.mem_univ _, (mem_oSet d _ x).mpr ?_⟩
    show ((x : S512.Idx) 0).val / 16 = 2 * (((x : S512.Idx) 0).val / 32) + ((x : S512.Idx) 0).val / 16 % 2
    omega
  have h := pointsTo_biUnion (Ix := HIx 1) (Name := ℕ) (U := UU) (Lvl := ℕ) (ℓ := oLoc d) (q := fullShare) (f := f) Finset.univ (oSet d) hd
  rw [hc, bigSep_univ_prod] at h
  exact h

end Cert.Proof.Run
-- ==== Proof.Launch.lean ====
/- The whole program's run: the SparseCore call, dealt to its 32 tiles and gathered up again, and the four host
   operations after it. From labels that name rows of the table it ends with the arguments as they were, the result
   at the sum of the 512 partial sums times 2^-20, and every semaphore counter at zero. -/
module

public import proofs.«01_k».proof.Proof.Deal

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The call's obligations -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- What a vector subcore's label runs: the kernel at its coordinates. -/
theorem defs₀_vector (c : Fin τ.nSC) (s : Fin τ.nSub) :
    defs₀ (F := F) (.scVector c s) 0 ()
      = SparseCore.onTile hcore0 hsub0 (fun c s => cc0__proto_loss_partials (coordsV c s)
          featM (Memref.isWhole_whole _) labM (Memref.isWhole_whole _) tabM (Memref.isWhole_whole _)
          outM (Memref.isWhole_whole _) idxM (Memref.isWhole_whole _) rowsA (Memref.isWhole_whole _) rowsB (Memref.isWhole_whole _)
          fbufM (Memref.isWhole_whole _) accM (Memref.isWhole_whole _) cc0_scratch5 cc0_scratch6 cc0_scratch7 cc0_scoped0 cc0_scoped1) ⟨⟩ c s := rfl

/-- Waits recorded as the task records them are waits that the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem drop_emp {A B : sProp 𝕄} : iprop(A ∗ emp ∗ B) ⊢ iprop(A ∗ B) := by
  iintro ⟨HA, -, HB⟩
  isplitl [HA] <;> iassumption

/-- Every tile's task is the body proved at a symbolic tile. -/
theorem tileObl (hpre : ∀ d i, ((m (lLoc d) : S16384.Idx → Elt F .i32) i : BitVec 32).toNat < 100000) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact drop_emp.trans ((tile_body d (coordsV ⟨_, hc.1⟩ ⟨_, hc.2⟩) (qT (Fin.cast nCore_zero c) (Fin.cast nSub_zero i)) (m (fLoc d)) (m (lLoc d)) (m (pLoc d)) (m (oLoc d))
    facts (hpre d) (PART m d) (partials_read _ _ _ _) O W hO).trans (wp_mono frame _ _ fun _ => obl_post (q := 0)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a core is given is dealt to its 16 tiles, a rest of the arguments' share staying behind, and what they give
    back is, with that rest, what the core gives back. -/
theorem vecSplit : (K (F := F)).VecSplit' (P m) 0 := by
  intro d c
  generalize hc : Fin.cast nCore_zero c = c'
  show iprop(args m d (qC (Fin.cast nCore_zero c)) ∗ outCore d (m (oLoc d)) (Fin.cast nCore_zero c)) ⊢ |={Set.univ}=> iprop(
      (bigSep Finset.univ fun i : Fin ((K (F := F)).nSub 0) => iprop(args m d (qT (Fin.cast nCore_zero c) (Fin.cast nSub_zero i)) ∗ outTile d (Fin.cast nCore_zero c) (m (oLoc d)) (Fin.cast nSub_zero i)))
      ∗ ((bigSep Finset.univ fun i : Fin ((K (F := F)).nSub 0) => iprop(args m d (qT (Fin.cast nCore_zero c) (Fin.cast nSub_zero i)) ∗ outTile d (Fin.cast nCore_zero c) (PART m d) (Fin.cast nSub_zero i)))
          -∗ iprop(args m d (qC (Fin.cast nCore_zero c)) ∗ outCore d (PART m d) (Fin.cast nCore_zero c))))
  rw [hc, bigSep_tasks (F := F) (fun i => iprop(args m d (qT c' i) ∗ outTile d c' (m (oLoc d)) i)),
    bigSep_tasks (F := F) (fun i => iprop(args m d (qT c' i) ∗ outTile d c' (PART m d) i)), bigSep_sep', bigSep_sep']
  unfold outCore
  iintro ⟨Ha, Ho⟩
  ihave Ha := (args_deal m d (qC c') 16).1 $$ Ha
  icases Ha with ⟨Ha, Hrest⟩
  imodintro
  isplitl [Ha Ho]
  · isplitl [Ha]; · iexact Ha
    iexact Ho
  iintro ⟨Ha, Ho⟩
  isplitl [Ha Hrest]
  · iapply (args_deal m d (qC c') 16).2
    isplitl [Ha]; · iexact Ha
    iexact Hrest
  iexact Ho

/-! ## The launch element: the handshakes' rounds, nothing of the kernel's own -/

def u₀ : UU := (initOf (K (F := F)).hsCells (K (F := F)).hsToks, 1)

theorem emp_bigSep {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emp_bigSep]; iempintro
  unfold P; dsimp only
  rw [show (bigSep Finset.univ fun _ : Thread nD τ => bigSep Finset.univ fun _ : Fin 1 => (iprop(emp) : sProp 𝕄)) = iprop(emp) from by
    rw [bigSep_congr fun _ _ => emp_bigSep _, emp_bigSep]]
  iempintro

/-! ## @main on the TensorCore -/

abbrev fR : DevRef τ sig := Proc.devRef .tc (main_arg0 : Ref sig .tc)
abbrev lR : DevRef τ sig := Proc.devRef .tc (main_arg1 : Ref sig .tc)
abbrev pR : DevRef τ sig := Proc.devRef .tc (main_arg2 : Ref sig .tc)
abbrev oR : DevRef τ sig := Proc.devRef .tc (main_v0 : Ref sig .tc)
abbrev zR : DevRef τ sig := Proc.devRef .tc (main_cst : Ref sig .tc)
abbrev sR : DevRef τ sig := Proc.devRef .tc (main_v1 : Ref sig .tc)
abbrev kR : DevRef τ sig := Proc.devRef .tc (main_cst_0 : Ref sig .tc)
abbrev rR : DevRef τ sig := Proc.devRef .tc (main_v2 : Ref sig .tc)

/-- The TensorCore's arrays. -/
abbrev S8 : Finset (DevRef τ sig) := {fR, lR, pR, oR, zR, sR, kR, rR}

/-- The result's place. -/
abbrev rLoc (d : Dev nD) : Loc nD τ sig := (SparseCore.T d).loc main_v2

theorem held_S8 (d : Dev nD) (W : Valuation τ sig (Elt F)) :
    (held (T d) S8 W : sProp 𝕄) = iprop((fLoc d ↦{fullShare} W fR) ∗ (lLoc d ↦{fullShare} W lR) ∗ (pLoc d ↦{fullShare} W pR) ∗ (oLoc d ↦{fullShare} W oR)
      ∗ ((SparseCore.T d).loc main_cst ↦{fullShare} W zR) ∗ ((SparseCore.T d).loc main_v1 ↦{fullShare} W sR) ∗ ((SparseCore.T d).loc main_cst_0 ↦{fullShare} W kR)
      ∗ (rLoc d ↦{fullShare} W rR)) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((fLoc d ↦{fullShare} W main_arg0) ∗ (lLoc d ↦{fullShare} W main_arg1) ∗ (pLoc d ↦{fullShare} W main_arg2) ∗ (oLoc d ↦{fullShare} W main_v0)
      ∗ ((SparseCore.T d).loc main_cst ↦{fullShare} W main_cst) ∗ ((SparseCore.T d).loc main_v1 ↦{fullShare} W main_v1) ∗ ((SparseCore.T d).loc main_cst_0 ↦{fullShare} W main_cst_0)
      ∗ (rLoc d ↦{fullShare} W main_v2)) := by
  unfold unscopedBufs
  rw [show (Finset.univ.filter fun b : Ref sig .tc => ¬ b.isScoped) = {main_arg0, main_arg1, main_arg2, main_v0, main_cst, main_v1, main_cst_0, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the arrays hold at launch; after the call, the result of the call at the partial sums. -/
def V0 (d : Dev nD) : Valuation τ sig (Elt F) := fun b => m (d, b)
def V1 (d : Dev nD) : Valuation τ sig (Elt F) := Function.update (V0 m d) oR (PART m d)

theorem V1_o (d : Dev nD) : V1 m d oR = PART m d := Function.update_self _ _ _
theorem V1_ne (d : Dev nD) {b : DevRef τ sig} (h : b ≠ oR) : V1 m d b = V0 m d b := Function.update_of_ne h _ _

/-- The host operations after the call: the partial sums added up, and the sum multiplied by a constant. -/
abbrev ops : List (HloOp τ sig (Elt F)) :=
  [ StableHlo.nullary main_cst (constant S_ .f32 0x00000000#32),
    StableHlo.binary main_v0 main_cst main_v1 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.nullary main_cst_0 (constant S_ .f32 0x35800000#32),
    StableHlo.binary main_v1 main_cst_0 main_v2 (mulf : (⟨S_, .f32⟩ : BufTy).Contents (Elt F) → (⟨S_, .f32⟩ : BufTy).Contents (Elt F) → (⟨S_, .f32⟩ : BufTy).Contents (Elt F)) ]

theorem main_eq (d : Dev nD) : main (F := F) d = (sc.run d 0 >>= fun _ => StableHlo.seq ops >>= fun _ => pure ⟨⟩) := rfl

theorem ops_sub : ∀ op ∈ (ops : List (HloOp τ sig (Elt F))), op.bufs ⊆ S8 := by
  intro op h
  simp only [ops, List.mem_cons, List.mem_nil_iff, or_false] at h
  rcases h with rfl | rfl | rfl | rfl
  · show ({zR} : Finset (DevRef τ sig)) ⊆ S8; decide
  · show ({oR, zR, sR} : Finset (DevRef τ sig)) ⊆ S8; decide
  · show ({kR} : Finset (DevRef τ sig)) ⊆ S8; decide
  · show ({sR, kR, rR} : Finset (DevRef τ sig)) ⊆ S8; decide

theorem ops_fresh : ∀ op ∈ (ops : List (HloOp τ sig (Elt F))), op.fresh = ∅ := by
  intro op h
  simp only [ops, List.mem_cons, List.mem_nil_iff, or_false] at h
  rcases h with rfl | rfl | rfl | rfl <;> rfl

/-- What the program leaves in its result. -/
def OUT (d : Dev nD) : Buf (Elt F) (rLoc d) :=
  (mulf (Host.reduceAdd (PART m d : S512.Idx → Elt F .f32) (constant S_ .f32 0x00000000#32) reducesTo_S512_S_d0 h_S_) (constant S_ .f32 0x35800000#32) : (⟨S_, .f32⟩ : BufTy).Contents (Elt F))

theorem after_r (d : Dev nD) : after ops (V1 m d) rR = OUT m d := by
  after_results
  rw [V1_o]; rfl
theorem after_f (d : Dev nD) : after ops (V1 m d) fR = m (fLoc d) := by
  after_results
  exact V1_ne m d (by decide)
theorem after_l (d : Dev nD) : after ops (V1 m d) lR = m (lLoc d) := by
  after_results
  exact V1_ne m d (by decide)
theorem after_p (d : Dev nD) : after ops (V1 m d) pR = m (pLoc d) := by
  after_results
  exact V1_ne m d (by decide)

/-- What the call takes for its two cores: a share of the arguments each, and the result's places. -/
theorem st0_eq (d : Dev nD) : (bigSep Finset.univ fun c : Fin ((K (F := F)).nCore 0) => (P m).st 0 d c)
    = iprop((bigSep Finset.univ fun c : Fin 2 => args m d (qC c)) ∗ oLoc d ↦{fullShare} m (oLoc d)) := by
  show (bigSep (Finset.univ : Finset (Fin 2)) fun c => iprop(args m d (qC c) ∗ outCore d (m (oLoc d)) c)) = _
  rw [bigSep_sep', out_deal]
/-- And what it gives back, the result at the partial sums. -/
theorem dn0_eq (d : Dev nD) : (bigSep Finset.univ fun c : Fin ((K (F := F)).nCore 0) => (P m).dn 0 d c)
    = iprop((bigSep Finset.univ fun c : Fin 2 => args m d (qC c)) ∗ oLoc d ↦{fullShare} PART m d) := by
  show (bigSep (Finset.univ : Finset (Fin 2)) fun c => iprop(args m d (qC c) ∗ outCore d (PART m d) c)) = _
  rw [bigSep_sep', out_deal]

/-- What @main leaves the claim: the arguments as they were and the result. -/
abbrev FIN (d : Dev nD) : sProp 𝕄 := iprop(args m d fullShare ∗ rLoc d ↦{fullShare} OUT m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq, main_eq, wp_bind]
  iintro ⟨#Hctx, Hst, ⟨Hb, ⟨Hf, Hl, Hp, Ho, Hz, Hs, Hk, Hr⟩, Hts, -⟩, -⟩
  ihave Ha : args m d fullShare $$ [Hf Hl Hp]
  · unfold args
    isplitl [Hf]; · iexact Hf
    isplitl [Hl]; · iexact Hl
    iexact Hp
  ihave Ha := (args_deal m d fullShare 2).1 $$ Ha
  icases Ha with ⟨Ha, Hrest⟩
  iapply ((K (F := F)).wp_run (D (F := F)) 𝒱 (EH := EH) (P := P m) κ d 0) $$ [Hst Ha Ho Hb Hrest Hz Hs Hk Hr Hts]
  isplitr; · iexact Hctx
  isplitl [Hst]; · iexact Hst
  isplitl [Ha Ho]
  · rw [st0_eq]
    isplitl [Ha]; · iexact Ha
    iexact Ho
  iintro ⟨Hst, Hdn⟩
  ihave Hdn := (Entails.of_eq (dn0_eq m d)) $$ Hdn
  icases Hdn with ⟨Ha, Ho⟩
  ihave Ha : args m d fullShare $$ [Ha Hrest]
  · iapply (args_deal m d fullShare 2).2
    isplitl [Ha]; · iexact Ha
    iexact Hrest
  unfold args
  icases Ha with ⟨Hf, Hl, Hp⟩
  iapply (StableHlo.wp_seq 𝒱 none Set.univ d S8 (fun _ => pure ⟨⟩) ops ops_sub ops_fresh (V1 m d)) $$ [Hb Hf Hl Hp Ho Hz Hs Hk Hr]
  · isplitl [Hb]; · iexact Hb
    rw [held_S8, V1_o, V1_ne m d (b := fR) (by decide), V1_ne m d (b := lR) (by decide), V1_ne m d (b := pR) (by decide),
      V1_ne m d (b := zR) (by decide), V1_ne m d (b := sR) (by decide), V1_ne m d (b := kR) (by decide), V1_ne m d (b := rR) (by decide)]
    isplitl [Hf]; · iexact Hf
    isplitl [Hl]; · iexact Hl
    isplitl [Hp]; · iexact Hp
    isplitl [Ho]; · iexact Ho
    isplitl [Hz]; · iexact Hz
    isplitl [Hs]; · iexact Hs
    isplitl [Hk]; · iexact Hk
    iexact Hr
  iintro ⟨Hb, Hheld⟩
  ihave Hheld := (Entails.of_eq (held_S8 d (after ops (V1 m d)))) $$ Hheld
  rw [after_f, after_l, after_p, after_r]
  icases Hheld with ⟨Hf, Hl, Hp, -, -, -, -, Hr⟩
  rw [wp_pure]; imodintro
  isplitl [Hst]; · iexact Hst
  isplitl [Hf Hl Hp Hr]
  · isplitl [Hf Hl Hp]
    · unfold args
      isplitl [Hf]; · iexact Hf
      isplitl [Hl]; · iexact Hl
      iexact Hp
    iexact Hr
  isplitl [Hb] <;> iassumption

/-- The claim read off a final state. -/
def fq (d : Dev nD) (s' : Phys nD τ sig (Elt F)) : Prop :=
  s'.mem.mem (rLoc d) = OUT m d ∧ s'.mem.mem (fLoc d) = m (fLoc d) ∧ s'.mem.mem (lLoc d) = m (lLoc d) ∧ s'.mem.mem (pLoc d) = m (pLoc d)

/-- An array held whole at some contents is at those contents. -/
theorem whole_agree (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  unfold FIN args
  iintro ⟨⟨⟨Hf, Hl, Hp⟩, Hr⟩, HSI⟩
  ihave %hf := (whole_agree (fLoc d) (m (fLoc d)) s') $$ [HSI Hf]
  · isplitl [Hf] <;> iassumption
  ihave %hl := (whole_agree (lLoc d) (m (lLoc d)) s') $$ [HSI Hl]
  · isplitl [Hl] <;> iassumption
  ihave %hp := (whole_agree (pLoc d) (m (pLoc d)) s') $$ [HSI Hp]
  · isplitl [Hp] <;> iassumption
  ihave %hr := (whole_agree (rLoc d) (OUT m d) s') $$ [HSI Hr]
  · isplitl [Hr] <;> iassumption
  ipureintro
  exact ⟨hr, hf, hl, hp⟩

/-! ## The program's run -/

def QC : PUnit × MemSt nD τ sig (Elt F) → Prop := fun r =>
  (∀ d : Dev nD, r.2.mem (rLoc d) = OUT m d ∧ r.2.mem (fLoc d) = m (fLoc d) ∧ r.2.mem (lLoc d) = m (lLoc d) ∧ r.2.mem (pLoc d) = m (pLoc d)) ∧ r.2.sem = fun _ => 0

/-- From labels that name rows of the table, every weakly fair execution of the 35 threads ends, without fault, with
    the result at `OUT`, the arguments as they were and every counter at zero. -/
theorem run_main [∀ e, Nonempty (Elt F e)] (hpre : ∀ d i, ((m (lLoc d) : S16384.Idx → Elt F .i32) i : BitVec 32).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Run
-- ==== Proof.Value.lean ====
/- The kernel's result over the extended reals: the 512 partial sums add up to the sum, over the rows of the features
   and over their 64 columns, of the squared difference between the feature and the row its label names. -/
module

public import proofs.«01_k».proof.Proof.Launch
public import Idealize.ShloMosaic.Lib.IdealHost
public import Idealize.ShloMosaic.Lib.ValueIdx
public import Idealize.ShloMosaic.Lib.ValueIdxRank1
public import Idealize.ShloMosaic.Lib.Pointwise.Reshape

@[expose] public section

noncomputable section

namespace Cert.Proof.Run

open Cert.KernelIdeal Cert.KernelIdeal.Gen
open Idealize.ShloMosaic

/-- A sum over `m * n` places, block by block. -/
theorem sum_blocks {m n k : ℕ} (f : ℕ → EReal) (e : k = m * n) :
    ∑ i : Fin k, f i.val = ∑ a : Fin m, ∑ b : Fin n, f (n * a.val + b.val) := by
  subst e
  rw [← Fintype.sum_prod_type', ← finProdFinEquiv.sum_comp]
  refine Finset.sum_congr rfl fun p _ => ?_
  rw [finProdFinEquiv_apply_val, add_comm]

/-! ## A running sum in closed form -/

section Sums
variable (f g : S256x64.Idx → Ideal .f32) (o : Fin 4)

/-- The squared difference of two buffers at a place. -/
def sqD (r : Fin 256) (c : Fin 64) : EReal := (f (at2 r c) - g (at2 r c)) * (f (at2 r c) - g (at2 r c))

theorem sqSum_apply (acc : FVec Ideal S16 .f32) (l : S16.Idx) : ∀ n : ℕ, (hn : n ≤ 256) →
    (sqSum f g o acc n l : EReal) = acc l + ∑ r : Fin n, sqD f g (Fin.castLE hn r) (colIx o (l 0))
  | 0, _ => by simp [sqSum]
  | n + 1, hn => by
    rw [sqSum_succ f g o acc (Nat.lt_of_succ_le hn), Fin.sum_univ_castSucc, ← add_assoc]
    exact congrArg (· + sqD f g ⟨n, hn⟩ (colIx o (l 0))) (sqSum_apply acc l n (Nat.le_of_succ_le hn))

theorem sqSum_all (acc : FVec Ideal S16 .f32) (l : S16.Idx) :
    (sqSum f g o acc 256 l : EReal) = acc l + ∑ r : Fin 256, sqD f g r (colIx o (l 0)) :=
  sqSum_apply f g o acc l 256 le_rfl

end Sums

section Kernel
variable (feat : S16384x64.Idx → Ideal .f32) (labs : S16384.Idx → BitVec 32) (tab : S100000x64.Idx → Ideal .f32)

/-- The squared difference at row `i` and column `j`. -/
def sqAt (i : Fin 16384) (j : Fin 64) : EReal :=
  (feat (at2 i j) - tab (at2 (rowOf (labs (at1 i))) j)) * (feat (at2 i j) - tab (at2 (rowOf (labs (at1 i))) j))

/-- The same at natural numbers, zero outside the array. -/
def sqN (i j : ℕ) : EReal := if h : i < 16384 ∧ j < 64 then sqAt feat labs tab ⟨i, h.1⟩ ⟨j, h.2⟩ else 0

theorem sqN_val (i : Fin 16384) (j : Fin 64) : sqN feat labs tab i.val j.val = sqAt feat labs tab i j := dif_pos ⟨i.isLt, j.isLt⟩

/-! ## What a tile reads -/

variable (L : grid0.Coords)

theorem wid_lt : wid L < 32 := by have := core_lt L; have := sub_lt L; unfold wid; omega

/-- Each read of a tile, at a place of its own: the tile's rows start at 512 times its number. -/
theorem featA_at (r : Fin 256) (c : Fin 64) (h : 512 * wid L + r.val < 16384) :
    featA (F := Ideal) L feat (at2 r c) = feat (at2 ⟨512 * wid L + r.val, h⟩ c) := by
  unfold featA
  rw [View.read_apply]
  refine congrArg feat (funext fun a => ?_)
  match a with
  | 0 => apply Fin.ext; show (k0_off2 L) 0 + 1 * r.val = 512 * wid L + r.val; rw [k0_off2_eq L]; show 1024 * (L 1).val + 512 * (L 0).val + 1 * r.val = _; unfold wid; omega
  | 1 => apply Fin.ext; show (k0_off2 L) 1 + 1 * c.val = c.val; rw [k0_off2_eq L]; show 0 + 1 * c.val = _; omega

theorem featB_at (r : Fin 256) (c : Fin 64) (h : 512 * wid L + 256 + r.val < 16384) :
    featB (F := Ideal) L feat (at2 r c) = feat (at2 ⟨512 * wid L + 256 + r.val, h⟩ c) := by
  unfold featB
  rw [View.read_apply]
  refine congrArg feat (funext fun a => ?_)
  match a with
  | 0 => apply Fin.ext; show (k0_off75 L) 0 + 1 * r.val = 512 * wid L + 256 + r.val; rw [k0_off75_eq L]; show 1024 * (L 1).val + 512 * (L 0).val + 256 + 1 * r.val = _; unfold wid; omega
  | 1 => apply Fin.ext; show (k0_off75 L) 1 + 1 * c.val = c.val; rw [k0_off75_eq L]; show 0 + 1 * c.val = _; omega

theorem labT_at (j : Fin 512) (h : 512 * wid L + j.val < 16384) :
    labT (F := Ideal) L labs (at1 j) = labs (at1 ⟨512 * wid L + j.val, h⟩) := by
  unfold labT
  rw [View.read_apply]
  refine congrArg labs (funext fun a => ?_)
  match a with
  | 0 => apply Fin.ext; show (k0_off1 L) 0 + 1 * j.val = 512 * wid L + j.val; rw [k0_off1_eq L]; show 1024 * (L 1).val + 512 * (L 0).val + 1 * j.val = _; unfold wid; omega

/-- The squared differences of a half, as those of the whole array. -/
theorem sqD_A (r : Fin 256) (c : Fin 64) :
    sqD (featA (F := Ideal) L feat) (gath (F := Ideal) tab (labA (F := Ideal) L labs)) r c = sqN feat labs tab (512 * wid L + r.val) c.val := by
  have hw := wid_lt L
  have h : 512 * wid L + r.val < 16384 := by omega
  have hl : labA (F := Ideal) L labs r = rowOf (labs (at1 ⟨512 * wid L + r.val, h⟩)) :=
    congrArg rowOf (labT_at labs L ⟨r.val, by omega⟩ h)
  have hg : gath (F := Ideal) tab (labA (F := Ideal) L labs) (at2 r c) = tab (at2 (rowOf (labs (at1 ⟨512 * wid L + r.val, h⟩))) c) :=
    congrArg (fun w => tab (at2 w c)) hl
  unfold sqD sqN
  rw [hg, featA_at feat L r c h, dif_pos ⟨h, c.isLt⟩]
  rfl

theorem sqD_B (r : Fin 256) (c : Fin 64) :
    sqD (featB (F := Ideal) L feat) (gath (F := Ideal) tab (labB (F := Ideal) L labs)) r c = sqN feat labs tab (512 * wid L + 256 + r.val) c.val := by
  have hw := wid_lt L
  have h : 512 * wid L + 256 + r.val < 16384 := by omega
  have hl : labB (F := Ideal) L labs r = rowOf (labs (at1 ⟨512 * wid L + 256 + r.val, h⟩)) := by
    refine congrArg rowOf ((labT_at labs L ⟨r.val + 256, by omega⟩ (show 512 * wid L + (r.val + 256) < 16384 by omega)).trans ?_)
    exact congrArg (fun i => labs (at1 i)) (Fin.ext (show 512 * wid L + (r.val + 256) = 512 * wid L + 256 + r.val by omega))
  have hg : gath (F := Ideal) tab (labB (F := Ideal) L labs) (at2 r c) = tab (at2 (rowOf (labs (at1 ⟨512 * wid L + 256 + r.val, h⟩))) c) :=
    congrArg (fun w => tab (at2 w c)) hl
  unfold sqD sqN
  rw [hg, featB_at feat L r c h, dif_pos ⟨h, c.isLt⟩]
  rfl

/-! ## The partial sums -/

/-- A tile's sum over its 512 rows of one column. -/
theorem sumB_at (o : Fin 4) (l : Fin 16) :
    (sumB (F := Ideal) L feat labs tab o (at1 l) : EReal)
      = ∑ r : Fin 512, sqN feat labs tab (512 * wid L + r.val) (16 * o.val + l.val) := by
  have z : ((k0_pay40 : FVec Ideal S16 .f32) (at1 l) : EReal) = 0 := Ideal.ofBits_zero_f32
  rw [sum_blocks (m := 2) (n := 256) (fun r => sqN feat labs tab (512 * wid L + r) (16 * o.val + l.val)) rfl, Fin.sum_univ_two]
  unfold sumB
  rw [sqSum_all]
  unfold sumA
  rw [sqSum_all, z, zero_add]
  refine congrArg₂ (· + ·) (Finset.sum_congr rfl fun r _ => ?_) (Finset.sum_congr rfl fun r _ => ?_)
  · rw [sqD_A]
    show sqN feat labs tab (512 * wid L + r.val) (16 * o.val + l.val) = sqN feat labs tab (512 * wid L + (256 * 0 + r.val)) _
    rw [mul_zero, zero_add]
  · rw [sqD_B]
    show sqN feat labs tab (512 * wid L + 256 + r.val) (16 * o.val + l.val) = sqN feat labs tab (512 * wid L + (256 * 1 + r.val)) _
    rw [mul_one, add_assoc]

/-- A tile's partial sum at a lane: its rows, and the columns 16 apart. -/
theorem tileVec_at (l : Fin 16) :
    (tileVec (F := Ideal) L feat labs tab (at1 l) : EReal)
      = ∑ o : Fin 4, ∑ r : Fin 512, sqN feat labs tab (512 * wid L + r.val) (16 * o.val + l.val) := by
  unfold tileVec k0_pay5
  show (shapeCast S16 _ shapeCasts_S16_S16 (at1 l) : EReal) = _
  rw [shapeCast_id, Fin.sum_univ_four, ← sumB_at, ← sumB_at, ← sumB_at, ← sumB_at, add_assoc (_ + _)]
  rfl

/-- The partial sums add up to the whole. -/
theorem partials_sum :
    (∑ x : S512.Idx, (partials (F := Ideal) feat labs tab x : EReal)) = ∑ i : Fin 16384, ∑ j : Fin 64, sqAt feat labs tab i j := by
  let G : ℕ → EReal := fun k => ∑ o : Fin 4, ∑ r : Fin 512, sqN feat labs tab (512 * (k / 16) + r.val) (16 * o.val + k % 16)
  have e1 : (∑ x : S512.Idx, (partials (F := Ideal) feat labs tab x : EReal)) = ∑ k : Fin 512, G k.val := by
    rw [← (ValueIdx.idxEquiv1 (n := 512)).symm.sum_comp]
    refine Finset.sum_congr rfl fun k _ => ?_
    refine (tileVec_at feat labs tab _ _).trans ?_
    rw [wid_tileOf]
    rfl
  rw [e1, sum_blocks (m := 32) (n := 16) G rfl]
  have e2 : ∀ i : Fin 16384, (∑ j : Fin 64, sqAt feat labs tab i j) = ∑ o : Fin 4, ∑ l : Fin 16, sqN feat labs tab i.val (16 * o.val + l.val) := fun i => by
    rw [← sum_blocks (m := 4) (n := 16) (fun j => sqN feat labs tab i.val j) rfl]
    exact Finset.sum_congr rfl fun j _ => (sqN_val feat labs tab i j).symm
  rw [Finset.sum_congr rfl fun i _ => e2 i,
    sum_blocks (m := 32) (n := 512) (fun i => ∑ o : Fin 4, ∑ l : Fin 16, sqN feat labs tab i (16 * o.val + l.val)) rfl]
  refine Finset.sum_congr rfl fun w _ => ?_
  have e3 : ∀ l : Fin 16, G (16 * w.val + l.val) = ∑ o : Fin 4, ∑ r : Fin 512, sqN feat labs tab (512 * w.val + r.val) (16 * o.val + l.val) := fun l => by
    have hd : (16 * w.val + l.val) / 16 = w.val := by omega
    have hm : (16 * w.val + l.val) % 16 = l.val := by omega
    simp only [G, hd, hm]
  rw [Finset.sum_congr rfl fun l _ => e3 l, Finset.sum_comm]
  rw [Finset.sum_comm (s := (Finset.univ : Finset (Fin 512)))]
  exact Finset.sum_congr rfl fun o _ => Finset.sum_comm

/-- The mean of the squared differences, as the sum times 2^-20. -/
def meanSq : EReal := (∑ i : Fin 16384, ∑ j : Fin 64, sqAt feat labs tab i j) * (((2 : ℝ) ^ 20)⁻¹ : ℝ)

/-- The kernel's constant is 2^-20, and the reference's is 2^20. -/
theorem scale_val : (Ideal.ofBits .f32 0x35800000#32 : EReal) = (((2 : ℝ) ^ 20)⁻¹ : ℝ) := by
  simp [Ideal.ofBits, Ideal.ieee, -EReal.coe_mul]; norm_num

theorem size_val : (Ideal.ofBits .f32 0x49800000#32 : EReal) = (((2 : ℝ) ^ 20 : ℝ) : EReal) := by
  simp [Ideal.ofBits, Ideal.ieee, -EReal.coe_mul, -EReal.coe_pow]; norm_num

/-- What the host computes of the partial sums. -/
theorem host_val (x : S_.Idx) :
    (mulf (Host.reduceAdd (partials (F := Ideal) feat labs tab : FVec Ideal S512 .f32) (constant S_ .f32 0x00000000#32) reducesTo_S512_S_d0 h_S_)
      (constant S_ .f32 0x35800000#32) : FVec Ideal S_ .f32) x = meanSq feat labs tab := by
  rw [ValueIdx.mulf_apply, ValueIdx.hostReduceAdd_apply, Ideal.hostReduceAdd_total _ (fun b => b.elim0)]
  unfold meanSq
  rw [← partials_sum, ← scale_val]
  refine congrArg₂ (· * ·) ?_ rfl
  refine Eq.trans (congrArg (· + _) (Ideal.ofBits_zero_f32 : (constant S_ .f32 0x00000000#32 : FVec Ideal S_ .f32) _ = (0 : EReal))) ?_
  rw [zero_add]

end Kernel

end Cert.Proof.Run
-- ==== Proof.Ref.lean ====
/- The reference's result over the extended reals: from labels that name rows of the table, its sum of squared
   differences divided by 2^20 is the same mean. -/
module

public import proofs.«01_k».proof.Proof.Value
public import Idealize.ShloMosaic.Lib.ReduceAll
public import Idealize.ShloMosaic.Lib.Routing.Ops
public import proofs.«01_k».proof.Proof.Gen.ReferenceIdeal

@[expose] public section

noncomputable section

namespace Cert.Proof.Run

open Cert.ReferenceIdeal Cert.ReferenceIdeal.Gen
open Idealize.ShloMosaic hiding ix1 ix2
open Idealize.ShloMosaic.ValueIdx (ix1 ix2)

theorem at1_eq {n : ℕ} (i : Fin n) : at1 i = ix1 i := funext fun | 0 => rfl
theorem at2_eq {n m : ℕ} (i : Fin n) (j : Fin m) : at2 i j = ix2 i j := funext fun | 0 => rfl | 1 => rfl

section Terms
variable (feat : FVec Ideal S16384x64 .f32) (labs : IVec S16384 32) (tab : FVec Ideal S100000x64 .f32)

/-- The row numbers the reference looks up: a negative label counts from the table's end. -/
def refIdx : IVec S16384x1 32 :=
  broadcastInDim S16384x1 ![0] bcast_S16384_S16384x1_0
    (select (cmpi .slt labs (broadcastInDim S16384 ![] bcast_S_S16384 (constantI S_ 32 0#32)))
      (addi labs (broadcastInDim S16384 ![] bcast_S_S16384 (constantI S_ 32 100000#32))) labs)

/-- Which row numbers lie in the table. -/
def refIn : IVec S16384 1 :=
  Host.reduce IntOp.andi
    (andi (cmpi .sge (refIdx labs) (broadcastInDim S16384x1 ![] bcast_S_S16384x1 (constantI S_ 32 0#32)))
      (cmpi .sle (refIdx labs) (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- The rows looked up. -/
def refRows : FVec Ideal S16384x64 .f32 :=
  select (broadcastInDim S16384x64 ![0] bcast_S16384_S16384x64_0 (refIn labs))
    (Host.gather gather_S100000x64_S16384x1_S16384x64_1_0_n_n_0_1_164 tab (refIdx labs))
    (broadcastInDim S16384x64 ![] bcast_S_S16384x64 (constant S_ .f32 0x7FC00000#32))

/-- The reference's result. -/
def refVal : FVec Ideal S_ .f32 :=
  Host.divf (Host.reduceAdd (mulf (subf feat (refRows labs tab)) (subf feat (refRows labs tab))) (constant S_ .f32 0x00000000#32) reducesTo_S16384x64_S_d0_1 h_S_)
    (constant S_ .f32 0x49800000#32)

variable (hlab : ∀ i, (labs i).toNat < 100000)
include hlab

/-- A label in range, read signed, is itself. -/
theorem lab_int (i : S16384.Idx) : 0 ≤ (labs i).toInt ∧ (labs i).toInt < 100000 := by
  have hc := BitVec.toInt_eq_toNat_cond (labs i)
  have hl := hlab i
  rw [if_pos (by omega)] at hc
  omega

/-- A label in range is the row number looked up. -/
theorem refIdx_at (i : Fin 16384) (z : Fin 1) : refIdx labs (ix2 i z) = labs (ix1 i) := by
  have hn : cmpi .slt labs (broadcastInDim S16384 ![] bcast_S_S16384 (constantI S_ 32 0#32)) (ix1 i) = 0#1 := by
    refine ValueIdx.eq_zero_of_ne_one fun h => ?_
    have h1 : (labs (ix1 i)).toInt < (0#32 : BitVec 32).toInt := IntOp.cmpi_slt.1 h
    have h2 := (lab_int labs hlab (ix1 i)).1
    have h3 : (0#32 : BitVec 32).toInt = 0 := rfl
    omega
  have e : ∀ y : S16384.Idx, y = ix1 i →
      (select (cmpi .slt labs (broadcastInDim S16384 ![] bcast_S_S16384 (constantI S_ 32 0#32)))
        (addi labs (broadcastInDim S16384 ![] bcast_S_S16384 (constantI S_ 32 100000#32))) labs) y = labs (ix1 i) := by
    intro y hy
    subst hy
    rw [ValueIdx.select_apply, hn]
    rfl
  exact e _ (funext fun a => by match a with | ⟨0, _⟩ => rfl)

/-- Every row number lies in the table. -/
theorem refIn_at (i : Fin 16384) : refIn labs (ix1 i) = 1#1 := by
  refine Host.reduce_andi_one _ _ _ _ _ rfl fun x => ?_
  have e : refIdx labs x = labs (ix1 (x 0)) := (congrArg (refIdx labs) (ValueIdx.eq_ix2 x)).trans (refIdx_at labs hlab (x 0) (x 1))
  have h := lab_int labs hlab (ix1 (x 0))
  rw [← e] at h
  exact IntOp.andi_eq_one.2 ⟨IntOp.cmpi_sge.2 h.1, IntOp.cmpi_sle.2 (Int.le_of_lt_add_one h.2)⟩

/-- The row looked up is the table's row of the label. -/
theorem refRows_at (i : Fin 16384) (j : Fin 64) : refRows labs tab (ix2 i j) = tab (ix2 (rowOf (labs (ix1 i))) j) := by
  have hm : (broadcastInDim S16384x64 ![0] bcast_S16384_S16384x64_0 (refIn labs)) (ix2 i j) = 1#1 := by
    have e : ∀ y : S16384.Idx, y = ix1 i → refIn labs y = 1#1 := fun y hy => by rw [hy]; exact refIn_at labs hlab i
    exact e _ (funext fun a => by match a with | ⟨0, _⟩ => rfl)
  unfold refRows
  rw [ValueIdx.select_apply, hm]
  refine Eq.trans (if_pos rfl) ?_
  refine Routing.gather_row (nb := 100000) (B := 64) (n := 16384) _ rfl rfl rfl rfl rfl tab (refIdx labs) i j (rowOf (labs (ix1 i))) ?_ (by decide)
  rw [refIdx_at labs hlab, ← rowOf_val (hlab (ix1 i)), BitVec.ofNat_toNat, BitVec.setWidth_eq]

/-- The reference's result is the mean. -/
theorem ref_val (x : S_.Idx) : refVal feat labs tab x = meanSq feat labs tab := by
  have hsum : (∑ y : S16384x64.Idx, (mulf (subf feat (refRows labs tab)) (subf feat (refRows labs tab)) : FVec Ideal S16384x64 .f32) y : EReal)
      = ∑ i : Fin 16384, ∑ j : Fin 64, sqAt feat labs tab i j := by
    refine (ValueIdx.sum_idx2 _).trans (Finset.sum_congr rfl fun i _ => Finset.sum_congr rfl fun j _ => ?_)
    have e : (subf feat (refRows labs tab) : FVec Ideal S16384x64 .f32) (ix2 i j) = (feat (at2 i j) - tab (at2 (rowOf (labs (at1 i))) j) : EReal) := by
      rw [ValueIdx.subf_apply, refRows_at labs tab hlab, at1_eq, at2_eq, at2_eq]
    rw [ValueIdx.mulf_apply, e]
    rfl
  unfold refVal meanSq
  rw [ValueIdx.hostDivf_apply, ValueIdx.hostReduceAdd_apply, Ideal.hostReduceAdd_total _ (fun b => b.elim0), ← hsum]
  have hz : ((constant S_ .f32 0x00000000#32 : FVec Ideal S_ .f32) (Shape.Idx.first h_S_) : EReal) = 0 := Ideal.ofBits_zero_f32
  have hd : ((constant S_ .f32 0x49800000#32 : FVec Ideal S_ .f32) x : EReal) = (((2 : ℝ) ^ 20 : ℝ) : EReal) := size_val
  rw [hz, hd, zero_add]
  unfold Ideal.div
  rw [if_neg (by rw [EReal.coe_eq_zero]; positivity), EReal.coe_inv]

end Terms

end Cert.Proof.Run
-- ==== Proof.lean ====
/- The proof of every claim made of the kernel: it runs, keeps its arguments and clears its counters, as printed and
   idealized; the reference does too; and over the extended reals the two compute the same mean. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_labels_in_range
public import proofs.«01_k».proof.Proof.Labels
public import proofs.«01_k».proof.Proof.Ref
public import Idealize.ShloMosaic.Adequacy
public import Idealize.ShloMosaic.Init

@[expose] public section

noncomputable section

namespace Cert.Proof

open Idealize.ShloMosaic Idealize.SL.Sem
open Cert.Proof.Run (run_main labels_lt refVal ref_val host_val OUT)

/-- The kernel as printed: its text is the idealized program's. -/
theorem frame_p : Cert.quiescent_Kernel := fun m ρ hp =>
  (θ_run (Cert.KernelIdeal.defs (F := Bits)) _ _).mono (fun _ h => ⟨fun c => (h.1 c).2, h.2⟩)
    (run_main (F := Bits) m ρ fun d => labels_lt _ _ _ (hp d))

/-- The idealized kernel. -/
theorem frame_pi : Cert.quiescent_KernelIdeal := fun m ρ hp =>
  (θ_run (Cert.KernelIdeal.defs (F := Ideal)) _ _).mono (fun _ h => ⟨fun c => (h.1 c).2, h.2⟩)
    (run_main (F := Ideal) m ρ fun d => labels_lt _ _ _ (hp d))

/-- The reference has no semaphores, and its run leaves the arguments. -/
theorem frame_r : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- The two programs' results, over the extended reals: each is the mean of the squared differences. -/
theorem same_value : Cert.algebraic_KernelIdeal_ReferenceIdeal := fun m ρ m' ρ' hp ha => by
  refine ⟨fun c => OUT m c, ?_, ?_⟩
  · exact (θ_run (Cert.KernelIdeal.defs (F := Ideal)) _ _).mono (fun _ h c => h.1 c)
      (run_main (F := Ideal) m ρ fun d => labels_lt _ _ _ (hp d))
  · refine (θ_run _ _ _).mono (fun r h c => ⟨(h c).1.trans ?_, (h c).2⟩) (Cert.ReferenceIdeal.Value.run (F := Ideal) m' ρ')
    obtain ⟨h0, h1, h2⟩ := ha c
    have hl := labels_lt _ _ _ (hp c)
    rw [h0, h1, h2]
    exact funext fun x => (ref_val _ _ _ hl x).trans (host_val _ _ _ x).symm

/-- Every claim. -/
theorem claim : Cert.Claim :=
  ⟨Cert.Kernel.Gen.facts, Cert.KernelIdeal.Gen.facts, Cert.ReferenceIdeal.Gen.facts, Cert.Pre_labels_in_range.Gen.facts,
    frame_p, frame_pi, frame_r, fun m ρ _ => frame_r m ρ trivial, trivial, same_value⟩

end Cert.Proof

end
